-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded_sides_and_nonnegative_trans [hPre_bounded_sides_and_nonnegative_trans : Cert.Pre_bounded_sides_and_nonnegative_trans.Facts] (m : (ℓ : Loc Cert.KernelIdeal.nD Cert.KernelIdeal.τ Cert.KernelIdeal.sig) → Buf (Elt Ideal) ℓ) : Prop :=
  ∀ c : Dev Cert.KernelIdeal.nD,
    (Cert.Pre_bounded_sides_and_nonnegative_trans.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded_sides_and_nonnegative_trans [hPre_bounded_sides_and_nonnegative_trans : Cert.Pre_bounded_sides_and_nonnegative_trans.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded_sides_and_nonnegative_trans.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_bounded_sides_and_nonnegative_trans [hKernelIdeal : Cert.KernelIdeal.Facts] [hPre_bounded_sides_and_nonnegative_trans : Cert.Pre_bounded_sides_and_nonnegative_trans.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded_sides_and_nonnegative_trans m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_bounded_sides_and_nonnegative_trans [hReferenceIdeal : Cert.ReferenceIdeal.Facts] [hPre_bounded_sides_and_nonnegative_trans : Cert.Pre_bounded_sides_and_nonnegative_trans.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded_sides_and_nonnegative_trans m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_bounded_sides_and_nonnegative_trans [hKernelIdeal : Cert.KernelIdeal.Facts] [hReferenceIdeal : Cert.ReferenceIdeal.Facts] [hPre_bounded_sides_and_nonnegative_trans : Cert.Pre_bounded_sides_and_nonnegative_trans.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded_sides_and_nonnegative_trans m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_arg4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_bounded_sides_and_nonnegative_trans : Cert.Pre_bounded_sides_and_nonnegative_trans.Facts),
    quiescent_Kernel (hKernel := hKernel)
    ∧ quiescent_KernelIdeal (hKernelIdeal := hKernelIdeal)
    ∧ quiescent_KernelIdeal_pre_bounded_sides_and_nonnegative_trans (hKernelIdeal := hKernelIdeal) (hPre_bounded_sides_and_nonnegative_trans := hPre_bounded_sides_and_nonnegative_trans)
    ∧ quiescent_ReferenceIdeal (hReferenceIdeal := hReferenceIdeal)
    ∧ quiescent_ReferenceIdeal_pre_bounded_sides_and_nonnegative_trans (hReferenceIdeal := hReferenceIdeal) (hPre_bounded_sides_and_nonnegative_trans := hPre_bounded_sides_and_nonnegative_trans)
    ∧ preserves_Kernel_KernelIdeal
    ∧ algebraic_KernelIdeal_ReferenceIdeal_pre_bounded_sides_and_nonnegative_trans (hKernelIdeal := hKernelIdeal) (hReferenceIdeal := hReferenceIdeal) (hPre_bounded_sides_and_nonnegative_trans := hPre_bounded_sides_and_nonnegative_trans)
-- ==== Pre_bounded_sides_and_nonnegative_trans.lean ====
abbrev S1x5000x2 : Shape := ⟨3, ![1, 5000, 2]⟩
abbrev S1x5000x6 : Shape := ⟨3, ![1, 5000, 6]⟩
abbrev S1x1x2x3 : Shape := ⟨4, ![1, 1, 2, 3]⟩
abbrev S1x4 : Shape := ⟨2, ![1, 4]⟩
abbrev S1x5000x4 : Shape := ⟨3, ![1, 5000, 4]⟩
abbrev S_ : Shape := ⟨0, ![]⟩
abbrev S20000 : Shape := ⟨1, ![20000]⟩
abbrev S6 : Shape := ⟨1, ![6]⟩
abbrev S20006 : Shape := ⟨1, ![20006]⟩

class Facts : Prop where
  slices_S1x5000x6_S1x5000x4_0_0_2 : S1x5000x6.Slices ![0, 0, 2] S1x5000x4
  bcast_S_S1x5000x4 : S_.BroadcastsInDim S1x5000x4 (![] : Fin 0 → Fin S1x5000x4.rank)
  shapeCasts_S1x5000x4_S20000 : S1x5000x4.ShapeCasts S20000
  bcast_S_S1x1x2x3 : S_.BroadcastsInDim S1x1x2x3 (![] : Fin 0 → Fin S1x1x2x3.rank)
  shapeCasts_S1x1x2x3_S6 : S1x1x2x3.ShapeCasts S6
  concatenates_S20000_S6_S20006_d0 : Shape.Concatenates [S20000, S6] S20006 0

variable [Facts]

def fn {F : FTy → Type} [FloatOps F] (main_arg0 : FVec F S1x5000x2 .f32) (main_arg1 : FVec F S1x5000x6 .f32) (main_arg2 : FVec F S1x5000x6 .f32) (main_arg3 : FVec F S1x1x2x3 .f32) (main_arg4 : FVec F S1x4 .f32) : IVec S20006 1 :=
  let main_v0 : FVec F S1x5000x4 .f32 := (extractStridedSlice S1x5000x4 ![0, 0, 2] · slices_S1x5000x6_S1x5000x4_0_0_2) main_arg1
  let main_cst : FVec F S_ .f32 := constant S_ .f32 0x7F800000#32
  let main_v1 : FVec F S1x5000x4 .f32 := broadcastInDim S1x5000x4 ![] bcast_S_S1x5000x4 main_cst
  let main_v2 : IVec S1x5000x4 1 := cmpf .olt main_v0 main_v1
  let main_v3 : IVec S20000 1 := shapeCast S20000 main_v2 shapeCasts_S1x5000x4_S20000
  let main_cst_0 : FVec F S_ .f32 := constant S_ .f32 0x00000000#32
  let main_v4 : FVec F S1x1x2x3 .f32 := broadcastInDim S1x1x2x3 ![] bcast_S_S1x1x2x3 main_cst_0
  let main_v5 : IVec S1x1x2x3 1 := cmpf .oge main_arg3 main_v4
  let main_v6 : IVec S6 1 := shapeCast S6 main_v5 shapeCasts_S1x1x2x3_S6
  let main_v7 : IVec S20006 1 := (fun a b => concatenate S20006 0 [⟨S20000, a⟩, ⟨S6, b⟩] concatenates_S20000_S6_S20006_d0) main_v3 main_v6
  main_v7
-- ==== Kernel.lean ====
abbrev S1x5000x2 : Shape := ⟨3, ![1, 5000, 2]⟩
abbrev S1x5000x6 : Shape := ⟨3, ![1, 5000, 6]⟩
abbrev S1x1x2x3 : Shape := ⟨4, ![1, 1, 2, 3]⟩
abbrev S1x4 : Shape := ⟨2, ![1, 4]⟩
abbrev S4 : Shape := ⟨1, ![4]⟩
abbrev S1x5000x1 : Shape := ⟨3, ![1, 5000, 1]⟩
abbrev S5000 : Shape := ⟨1, ![5000]⟩
abbrev S_ : Shape := ⟨0, ![]⟩
abbrev S5000x6 : Shape := ⟨2, ![5000, 6]⟩
abbrev S5000x4 : Shape := ⟨2, ![5000, 4]⟩
abbrev S5000x2 : Shape := ⟨2, ![5000, 2]⟩
abbrev S1x5000x1x2 : Shape := ⟨4, ![1, 5000, 1, 2]⟩
abbrev S1x5000x2x2 : Shape := ⟨4, ![1, 5000, 2, 2]⟩
abbrev S5000x1 : Shape := ⟨2, ![5000, 1]⟩
abbrev S5120x4 : Shape := ⟨2, ![5120, 4]⟩
abbrev S1 : Shape := ⟨1, ![1]⟩
abbrev S4x5120 : Shape := ⟨2, ![4, 5120]⟩
abbrev S4x5x1024 : Shape := ⟨3, ![4, 5, 1024]⟩
abbrev S5x4x1024 : Shape := ⟨3, ![5, 4, 1024]⟩
abbrev S5x8x1024 : Shape := ⟨3, ![5, 8, 1024]⟩
abbrev S5x1024 : Shape := ⟨2, ![5, 1024]⟩
abbrev S1x8x1024 : Shape := ⟨3, ![1, 8, 1024]⟩
abbrev S8x1024 : Shape := ⟨2, ![8, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩
abbrev S1x1x1024 : Shape := ⟨3, ![1, 1, 1024]⟩
abbrev S1x1x1 : Shape := ⟨3, ![1, 1, 1]⟩
abbrev S5120 : Shape := ⟨1, ![5120]⟩
abbrev S8x5120 : Shape := ⟨2, ![8, 5120]⟩
abbrev S6x5000 : Shape := ⟨2, ![6, 5000]⟩
abbrev S2 : Shape := ⟨1, ![2]⟩
abbrev S8x128 : Shape := ⟨2, ![8, 128]⟩
abbrev S2x3 : Shape := ⟨2, ![2, 3]⟩
abbrev S6 : Shape := ⟨1, ![6]⟩
abbrev S16x5120 : Shape := ⟨2, ![16, 5120]⟩
abbrev S1x128 : Shape := ⟨2, ![1, 128]⟩
abbrev S1x1 : Shape := ⟨2, ![1, 1]⟩
abbrev S1x5120 : Shape := ⟨2, ![1, 5120]⟩
abbrev S5x5120 : Shape := ⟨2, ![5, 5120]⟩
abbrev S11x5000 : Shape := ⟨2, ![11, 5000]⟩
abbrev S5000x11 : Shape := ⟨2, ![5000, 11]⟩
abbrev S1x5000x11 : Shape := ⟨3, ![1, 5000, 11]⟩

abbrev nBuf : Space → Nat
  | .hbm => 111
  | .vmem => 7
  | .smem => 0
  | _ => 0

abbrev bufTy : (tb : Table) → Fin (tcTables nBuf tb) → BufTy
  | .hbm, ⟨0, _⟩ => ⟨S1x5000x2, .f32⟩
  | .hbm, ⟨1, _⟩ => ⟨S1x5000x6, .f32⟩
  | .hbm, ⟨2, _⟩ => ⟨S1x5000x6, .f32⟩
  | .hbm, ⟨3, _⟩ => ⟨S1x1x2x3, .f32⟩
  | .hbm, ⟨4, _⟩ => ⟨S1x4, .f32⟩
  | .hbm, ⟨5, _⟩ => ⟨S4, .f32⟩
  | .hbm, ⟨6, _⟩ => ⟨S1x5000x1, .f32⟩
  | .hbm, ⟨7, _⟩ => ⟨S5000, .f32⟩
  | .hbm, ⟨8, _⟩ => ⟨S5000, .f32⟩
  | .hbm, ⟨9, _⟩ => ⟨S5000, .f32⟩
  | .hbm, ⟨10, _⟩ => ⟨S_, .f32⟩
  | .hbm, ⟨11, _⟩ => ⟨S5000, .f32⟩
  | .hbm, ⟨12, _⟩ => ⟨S5000, .f32⟩
  | .hbm, ⟨13, _⟩ => ⟨S_, .f32⟩
  | .hbm, ⟨14, _⟩ => ⟨S5000, .f32⟩
  | .hbm, ⟨15, _⟩ => ⟨S5000, .f32⟩
  | .hbm, ⟨16, _⟩ => ⟨S5000, .f32⟩
  | .hbm, ⟨17, _⟩ => ⟨S5000, .i32⟩
  | .hbm, ⟨18, _⟩ => ⟨S5000, .f32⟩
  | .hbm, ⟨19, _⟩ => ⟨S5000, .i32⟩
  | .hbm, ⟨20, _⟩ => ⟨S5000x6, .f32⟩
  | .hbm, ⟨21, _⟩ => ⟨S5000x4, .f32⟩
  | .hbm, ⟨22, _⟩ => ⟨S1x4, .f32⟩
  | .hbm, ⟨23, _⟩ => ⟨S5000x4, .f32⟩
  | .hbm, ⟨24, _⟩ => ⟨S5000x4, .f32⟩
  | .hbm, ⟨25, _⟩ => ⟨S5000x2, .f32⟩
  | .hbm, ⟨26, _⟩ => ⟨S1x5000x1x2, .f32⟩
  | .hbm, ⟨27, _⟩ => ⟨S1x5000x2x2, .f32⟩
  | .hbm, ⟨28, _⟩ => ⟨S5000x4, .f32⟩
  | .hbm, ⟨29, _⟩ => ⟨S5000x4, .f32⟩
  | .hbm, ⟨30, _⟩ => ⟨S_, .i32⟩
  | .hbm, ⟨31, _⟩ => ⟨S5000, .i32⟩
  | .hbm, ⟨32, _⟩ => ⟨S5000, .i1⟩
  | .hbm, ⟨33, _⟩ => ⟨S_, .i32⟩
  | .hbm, ⟨34, _⟩ => ⟨S5000, .i32⟩
  | .hbm, ⟨35, _⟩ => ⟨S5000, .i32⟩
  | .hbm, ⟨36, _⟩ => ⟨S5000, .i32⟩
  | .hbm, ⟨37, _⟩ => ⟨S5000x1, .i32⟩
  | .hbm, ⟨38, _⟩ => ⟨S5000x4, .f32⟩
  | .hbm, ⟨39, _⟩ => ⟨S_, .f32⟩
  | .hbm, ⟨40, _⟩ => ⟨S5120x4, .f32⟩
  | .hbm, ⟨41, _⟩ => ⟨S_, .i32⟩
  | .hbm, ⟨42, _⟩ => ⟨S1, .i32⟩
  | .hbm, ⟨43, _⟩ => ⟨S5120x4, .f32⟩
  | .hbm, ⟨44, _⟩ => ⟨S4x5120, .f32⟩
  | .hbm, ⟨45, _⟩ => ⟨S4x5x1024, .f32⟩
  | .hbm, ⟨46, _⟩ => ⟨S5x4x1024, .f32⟩
  | .hbm, ⟨47, _⟩ => ⟨S_, .f32⟩
  | .hbm, ⟨48, _⟩ => ⟨S5x4x1024, .f32⟩
  | .hbm, ⟨49, _⟩ => ⟨S5x8x1024, .f32⟩
  | .hbm, ⟨50, _⟩ => ⟨S5x1024, .f32⟩
  | .hbm, ⟨51, _⟩ => ⟨S5120, .f32⟩
  | .hbm, ⟨52, _⟩ => ⟨S5000, .f32⟩
  | .hbm, ⟨53, _⟩ => ⟨S_, .f32⟩
  | .hbm, ⟨54, _⟩ => ⟨S5000, .f32⟩
  | .hbm, ⟨55, _⟩ => ⟨S_, .i32⟩
  | .hbm, ⟨56, _⟩ => ⟨S5000, .i32⟩
  | .hbm, ⟨57, _⟩ => ⟨S5000, .i1⟩
  | .hbm, ⟨58, _⟩ => ⟨S_, .i32⟩
  | .hbm, ⟨59, _⟩ => ⟨S5000, .i32⟩
  | .hbm, ⟨60, _⟩ => ⟨S5000, .i32⟩
  | .hbm, ⟨61, _⟩ => ⟨S5000, .i32⟩
  | .hbm, ⟨62, _⟩ => ⟨S5000x1, .i32⟩
  | .hbm, ⟨63, _⟩ => ⟨S5000, .f32⟩
  | .hbm, ⟨64, _⟩ => ⟨S_, .f32⟩
  | .hbm, ⟨65, _⟩ => ⟨S8x5120, .f32⟩
  | .hbm, ⟨66, _⟩ => ⟨S6x5000, .f32⟩
  | .hbm, ⟨67, _⟩ => ⟨S_, .i32⟩
  | .hbm, ⟨68, _⟩ => ⟨S1, .i32⟩
  | .hbm, ⟨69, _⟩ => ⟨S_, .i32⟩
  | .hbm, ⟨70, _⟩ => ⟨S1, .i32⟩
  | .hbm, ⟨71, _⟩ => ⟨S2, .i32⟩
  | .hbm, ⟨72, _⟩ => ⟨S8x5120, .f32⟩
  | .hbm, ⟨73, _⟩ => ⟨S5000x6, .f32⟩
  | .hbm, ⟨74, _⟩ => ⟨S_, .f32⟩
  | .hbm, ⟨75, _⟩ => ⟨S8x5120, .f32⟩
  | .hbm, ⟨76, _⟩ => ⟨S6x5000, .f32⟩
  | .hbm, ⟨77, _⟩ => ⟨S_, .i32⟩
  | .hbm, ⟨78, _⟩ => ⟨S1, .i32⟩
  | .hbm, ⟨79, _⟩ => ⟨S_, .i32⟩
  | .hbm, ⟨80, _⟩ => ⟨S1, .i32⟩
  | .hbm, ⟨81, _⟩ => ⟨S2, .i32⟩
  | .hbm, ⟨82, _⟩ => ⟨S8x5120, .f32⟩
  | .hbm, ⟨83, _⟩ => ⟨S_, .f32⟩
  | .hbm, ⟨84, _⟩ => ⟨S8x5120, .f32⟩
  | .hbm, ⟨85, _⟩ => ⟨S_, .i32⟩
  | .hbm, ⟨86, _⟩ => ⟨S1, .i32⟩
  | .hbm, ⟨87, _⟩ => ⟨S_, .i32⟩
  | .hbm, ⟨88, _⟩ => ⟨S1, .i32⟩
  | .hbm, ⟨89, _⟩ => ⟨S2, .i32⟩
  | .hbm, ⟨90, _⟩ => ⟨S8x5120, .f32⟩
  | .hbm, ⟨91, _⟩ => ⟨S_, .i32⟩
  | .hbm, ⟨92, _⟩ => ⟨S1, .i32⟩
  | .hbm, ⟨93, _⟩ => ⟨S_, .i32⟩
  | .hbm, ⟨94, _⟩ => ⟨S1, .i32⟩
  | .hbm, ⟨95, _⟩ => ⟨S2, .i32⟩
  | .hbm, ⟨96, _⟩ => ⟨S8x5120, .f32⟩
  | .hbm, ⟨97, _⟩ => ⟨S_, .f32⟩
  | .hbm, ⟨98, _⟩ => ⟨S8x128, .f32⟩
  | .hbm, ⟨99, _⟩ => ⟨S2x3, .f32⟩
  | .hbm, ⟨100, _⟩ => ⟨S6, .f32⟩
  | .hbm, ⟨101, _⟩ => ⟨S_, .i32⟩
  | .hbm, ⟨102, _⟩ => ⟨S1, .i32⟩
  | .hbm, ⟨103, _⟩ => ⟨S_, .i32⟩
  | .hbm, ⟨104, _⟩ => ⟨S1, .i32⟩
  | .hbm, ⟨105, _⟩ => ⟨S2, .i32⟩
  | .hbm, ⟨106, _⟩ => ⟨S8x128, .f32⟩
  | .hbm, ⟨107, _⟩ => ⟨S16x5120, .f32⟩
  | .hbm, ⟨108, _⟩ => ⟨S11x5000, .f32⟩
  | .hbm, ⟨109, _⟩ => ⟨S5000x11, .f32⟩
  | .hbm, ⟨110, _⟩ => ⟨S1x5000x11, .f32⟩
  | .local _ .vmem, ⟨0, _⟩ => ⟨S5x8x1024, .f32⟩
  | .local _ .vmem, ⟨1, _⟩ => ⟨S5x1024, .f32⟩
  | .local _ .vmem, ⟨2, _⟩ => ⟨S8x5120, .f32⟩
  | .local _ .vmem, ⟨3, _⟩ => ⟨S8x5120, .f32⟩
  | .local _ .vmem, ⟨4, _⟩ => ⟨S8x5120, .f32⟩
  | .local _ .vmem, ⟨5, _⟩ => ⟨S8x128, .f32⟩
  | .local _ .vmem, ⟨6, _⟩ => ⟨S16x5120, .f32⟩
  | _, _ => ⟨S1x5000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_c_7 : Ref sig .tc := ⟨.hbm, 55, rfl⟩
abbrev main_v39 : Ref sig .tc := ⟨.hbm, 56, rfl⟩
abbrev main_v40 : Ref sig .tc := ⟨.hbm, 57, rfl⟩
abbrev main_c_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_c_10 : Ref sig .tc := ⟨.hbm, 67, rfl⟩
abbrev main_v48 : Ref sig .tc := ⟨.hbm, 68, rfl⟩
abbrev main_c_11 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_c_13 : Ref sig .tc := ⟨.hbm, 77, rfl⟩
abbrev main_v55 : Ref sig .tc := ⟨.hbm, 78, rfl⟩
abbrev main_c_14 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_15 : Ref sig .tc := ⟨.hbm, 83, rfl⟩
abbrev main_v59 : Ref sig .tc := ⟨.hbm, 84, rfl⟩
abbrev main_c_16 : Ref sig .tc := ⟨.hbm, 85, rfl⟩
abbrev main_v60 : Ref sig .tc := ⟨.hbm, 86, rfl⟩
abbrev main_c_17 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_18 : Ref sig .tc := ⟨.hbm, 91, rfl⟩
abbrev main_v64 : Ref sig .tc := ⟨.hbm, 92, rfl⟩
abbrev main_c_19 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_20 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_21 : Ref sig .tc := ⟨.hbm, 101, rfl⟩
abbrev main_v71 : Ref sig .tc := ⟨.hbm, 102, rfl⟩
abbrev main_c_22 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc0_sem0_0 : DmaSem sig := 0
abbrev cc0_sem1_0 : DmaSem sig := 1
abbrev cc1_sem0_0 : DmaSem sig := 2
abbrev cc1_sem1_0 : DmaSem sig := 3
abbrev cc1_sem2_0 : DmaSem sig := 4
abbrev cc1_sem3_0 : DmaSem sig := 5
abbrev cc1_sem4_0 : DmaSem sig := 6

abbrev nD : Nat := 1
abbrev τ : Topo := Topo.v7x

variable {F : FTy → Type} [FloatOps F]

abbrev grid0 : Pipeline.Grid := ⟨1, ![5], ![false]⟩

def k0_off1 (i : grid0.Coords) : Fin 3 → Nat :=
  let arg0 : BitVec 32 := BitVec.ofNat 32 (i 0).val
  let v3 : Index := Scalar.indexCast arg0
  let c0 : Index := 0#32
  let c0_1 : Index := 0#32
  ![v3.toNat, 0, 0]
@[reducible] def k0_t1_loop (i : grid0.Coords) : Scf.Loop 32 :=
  let c0_i32_9 : BitVec 32 := 0#32
  let arg0 : BitVec 32 := BitVec.ofNat 32 (i 0).val
  let v44 : BitVec 32 := Scalar.subi arg0 c0_i32_9
  let c1_i32 : BitVec 32 := 1#32
  let v46 : BitVec 32 := Scalar.divsi v44 c1_i32
  let v47 : BitVec 32 := Scalar.muli v46 c1_i32
  let v48 : BitVec 32 := Scalar.addi c0_i32_9 v47
  let c1_i32_10 : BitVec 32 := 1#32
  ⟨c0_i32_9, v48, c1_i32_10⟩
def k0_off2 (i : grid0.Coords) (k0_t1 : Fin (k0_t1_loop i).trips) : Fin 3 → Nat :=
  let c0_i32_9 : BitVec 32 := 0#32
  let c1_i32_10 : BitVec 32 := 1#32
  let arg3 : BitVec 32 := Scf.iv c0_i32_9 c1_i32_10 k0_t1
  let v93 : Index := Scalar.indexCast arg3
  let c0_23 : Index := 0#32
  let c0_24 : Index := 0#32
  ![v93.toNat, 0, 0]
def k0_off3 (i : grid0.Coords) (k0_t1 : Fin (k0_t1_loop i).trips) : Fin 2 → Nat :=
  let c0_i32_9 : BitVec 32 := 0#32
  let c1_i32_10 : BitVec 32 := 1#32
  let arg3 : BitVec 32 := Scf.iv c0_i32_9 c1_i32_10 k0_t1
  let v136 : Index := Scalar.indexCast arg3
  let c0_31 : Index := 0#32
  ![v136.toNat, 0]
@[reducible] def k0_t2_loop (i : grid0.Coords) : Scf.Loop 32 :=
  let c0_i32_9 : BitVec 32 := 0#32
  let arg0 : BitVec 32 := BitVec.ofNat 32 (i 0).val
  let v44 : BitVec 32 := Scalar.subi arg0 c0_i32_9
  let c1_i32 : BitVec 32 := 1#32
  let v46 : BitVec 32 := Scalar.divsi v44 c1_i32
  let v47 : BitVec 32 := Scalar.muli v46 c1_i32
  let v48 : BitVec 32 := Scalar.addi c0_i32_9 v47
  let v45 : BitVec 32 := Scalar.addi c0_i32_9 v44
  let c1_i32_11 : BitVec 32 := 1#32
  ⟨v48, v45, c1_i32_11⟩
def k0_off4 (i : grid0.Coords) (k0_t2 : Fin (k0_t2_loop i).trips) : Fin 3 → Nat :=
  let c0_i32_9 : BitVec 32 := 0#32
  let arg0 : BitVec 32 := BitVec.ofNat 32 (i 0).val
  let v44 : BitVec 32 := Scalar.subi arg0 c0_i32_9
  let c1_i32 : BitVec 32 := 1#32
  let v46 : BitVec 32 := Scalar.divsi v44 c1_i32
  let v47 : BitVec 32 := Scalar.muli v46 c1_i32
  let v48 : BitVec 32 := Scalar.addi c0_i32_9 v47
  let c1_i32_11 : BitVec 32 := 1#32
  let arg3 : BitVec 32 := Scf.iv v48 c1_i32_11 k0_t2
  let v93 : Index := Scalar.indexCast arg3
  let c0_23 : Index := 0#32
  let c0_24 : Index := 0#32
  ![v93.toNat, 0, 0]
def k0_off5 (i : grid0.Coords) (k0_t2 : Fin (k0_t2_loop i).trips) : Fin 2 → Nat :=
  let c0_i32_9 : BitVec 32 := 0#32
  let arg0 : BitVec 32 := BitVec.ofNat 32 (i 0).val
  let v44 : BitVec 32 := Scalar.subi arg0 c0_i32_9
  let c1_i32 : BitVec 32 := 1#32
  let v46 : BitVec 32 := Scalar.divsi v44 c1_i32
  let v47 : BitVec 32 := Scalar.muli v46 c1_i32
  let v48 : BitVec 32 := Scalar.addi c0_i32_9 v47
  let c1_i32_11 : BitVec 32 := 1#32
  let arg3 : BitVec 32 := Scf.iv v48 c1_i32_11 k0_t2
  let v136 : Index := Scalar.indexCast arg3
  let c0_31 : Index := 0#32
  ![v136.toNat, 0]
def k0_off6 (i : grid0.Coords) : Fin 2 → Nat :=
  let arg0 : BitVec 32 := BitVec.ofNat 32 (i 0).val
  let v91 : Index := Scalar.indexCast arg0
  let c0_22 : Index := 0#32
  ![v91.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S5x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S5x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := .none

abbrev stage1_0 : Fin 1 → Memref sig .tc .vmem S8x5120 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x5120 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x5120 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S16x5120 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
-- ==== ReferenceIdeal.lean ====
abbrev S1x5000x2 : Shape := ⟨3, ![1, 5000, 2]⟩
abbrev S1x5000x6 : Shape := ⟨3, ![1, 5000, 6]⟩
abbrev S1x1x2x3 : Shape := ⟨4, ![1, 1, 2, 3]⟩
abbrev S1x4 : Shape := ⟨2, ![1, 4]⟩
abbrev S4 : Shape := ⟨1, ![4]⟩
abbrev S2 : Shape := ⟨1, ![2]⟩
abbrev S_ : Shape := ⟨0, ![]⟩
abbrev S1x5000x1 : Shape := ⟨3, ![1, 5000, 1]⟩
abbrev S1x5000 : Shape := ⟨2, ![1, 5000]⟩
abbrev S5000x6 : Shape := ⟨2, ![5000, 6]⟩
abbrev S5000x2 : Shape := ⟨2, ![5000, 2]⟩
abbrev S5000x4 : Shape := ⟨2, ![5000, 4]⟩
abbrev S1x5000x1x2 : Shape := ⟨4, ![1, 5000, 1, 2]⟩
abbrev S1x5000x2x2 : Shape := ⟨4, ![1, 5000, 2, 2]⟩
abbrev S5000 : Shape := ⟨1, ![5000]⟩
abbrev S5000x1 : Shape := ⟨2, ![5000, 1]⟩
abbrev S5000x5000 : Shape := ⟨2, ![5000, 5000]⟩
abbrev S1 : Shape := ⟨1, ![1]⟩
abbrev S1x1x2 : Shape := ⟨3, ![1, 1, 2]⟩
abbrev S1x2x3 : Shape := ⟨3, ![1, 2, 3]⟩
abbrev S1x2x2 : Shape := ⟨3, ![1, 2, 2]⟩
abbrev S1x2x1 : Shape := ⟨3, ![1, 2, 1]⟩
abbrev S1x2 : Shape := ⟨2, ![1, 2]⟩
abbrev S1x1x1 : Shape := ⟨3, ![1, 1, 1]⟩
abbrev S1x1 : Shape := ⟨2, ![1, 1]⟩
abbrev S1x5000x4 : Shape := ⟨3, ![1, 5000, 4]⟩
abbrev S1x1x4 : Shape := ⟨3, ![1, 1, 4]⟩
abbrev S1x1x1x5000x1x2 : Shape := ⟨6, ![1, 1, 1, 5000, 1, 2]⟩
abbrev S1x1x1x5000x2x2 : Shape := ⟨6, ![1, 1, 1, 5000, 2, 2]⟩
abbrev S1x5000x11 : Shape := ⟨3, ![1, 5000, 11]⟩

abbrev nBuf : Space → Nat
  | .hbm => 258
  | .vmem => 0
  | .smem => 0
  | _ => 0

abbrev hbmTy0_0 (i : Nat) : BufTy := match i % 128 with
  | 0 => ⟨S1x5000x2, .f32⟩
  | 1 => ⟨S1x5000x6, .f32⟩
  | 2 => ⟨S1x5000x6, .f32⟩
  | 3 => ⟨S1x1x2x3, .f32⟩
  | 4 => ⟨S1x4, .f32⟩
  | 5 => ⟨S4, .f32⟩
  | 6 => ⟨S2, .f32⟩
  | 7 => ⟨S1x5000x2, .f32⟩
  | 8 => ⟨S1x5000x2, .f32⟩
  | 9 => ⟨S_, .f32⟩
  | 10 => ⟨S1x5000x2, .f32⟩
  | 11 => ⟨S1x5000x2, .f32⟩
  | 12 => ⟨S_, .f32⟩
  | 13 => ⟨S1x5000x2, .f32⟩
  | 14 => ⟨S1x5000x2, .f32⟩
  | 15 => ⟨S1x5000x1, .f32⟩
  | 16 => ⟨S_, .f32⟩
  | 17 => ⟨S1x5000, .f32⟩
  | 18 => ⟨S5000x6, .f32⟩
  | 19 => ⟨S5000x2, .f32⟩
  | 20 => ⟨S5000x4, .f32⟩
  | 21 => ⟨S1x4, .f32⟩
  | 22 => ⟨S5000x4, .f32⟩
  | 23 => ⟨S5000x4, .f32⟩
  | 24 => ⟨S1x5000x1x2, .f32⟩
  | 25 => ⟨S1x5000x2x2, .f32⟩
  | 26 => ⟨S5000x4, .f32⟩
  | 27 => ⟨S5000x4, .f32⟩
  | 28 => ⟨S1x5000x1, .f32⟩
  | 29 => ⟨S5000, .f32⟩
  | 30 => ⟨S5000, .f32⟩
  | 31 => ⟨S5000, .i32⟩
  | 32 => ⟨S5000, .f32⟩
  | 33 => ⟨S5000, .i32⟩
  | 34 => ⟨S_, .i32⟩
  | 35 => ⟨S5000, .i32⟩
  | 36 => ⟨S5000, .i1⟩
  | 37 => ⟨S_, .i32⟩
  | 38 => ⟨S5000, .i32⟩
  | 39 => ⟨S5000, .i32⟩
  | 40 => ⟨S5000, .i32⟩
  | 41 => ⟨S5000x1, .i32⟩
  | 42 => ⟨S5000x4, .f32⟩
  | 43 => ⟨S5000x1, .f32⟩
  | 44 => ⟨S5000, .f32⟩
  | 45 => ⟨S5000x1, .f32⟩
  | 46 => ⟨S5000, .f32⟩
  | 47 => ⟨S5000x1, .f32⟩
  | 48 => ⟨S5000, .f32⟩
  | 49 => ⟨S5000x1, .f32⟩
  | 50 => ⟨S5000, .f32⟩
  | 51 => ⟨S5000, .f32⟩
  | 52 => ⟨S_, .f32⟩
  | 53 => ⟨S_, .f32⟩
  | 54 => ⟨S5000, .f32⟩
  | 55 => ⟨S5000, .f32⟩
  | 56 => ⟨S5000, .f32⟩
  | 57 => ⟨S_, .f32⟩
  | 58 => ⟨S_, .f32⟩
  | 59 => ⟨S5000, .f32⟩
  | 60 => ⟨S5000, .f32⟩
  | 61 => ⟨S5000, .f32⟩
  | 62 => ⟨S5000x1, .f32⟩
  | 63 => ⟨S1x5000, .f32⟩
  | 64 => ⟨S5000x5000, .f32⟩
  | 65 => ⟨S5000x5000, .f32⟩
  | 66 => ⟨S5000x5000, .f32⟩
  | 67 => ⟨S5000x1, .f32⟩
  | 68 => ⟨S1x5000, .f32⟩
  | 69 => ⟨S5000x5000, .f32⟩
  | 70 => ⟨S5000x5000, .f32⟩
  | 71 => ⟨S5000x5000, .f32⟩
  | 72 => ⟨S5000x1, .f32⟩
  | 73 => ⟨S1x5000, .f32⟩
  | 74 => ⟨S5000x5000, .f32⟩
  | 75 => ⟨S5000x5000, .f32⟩
  | 76 => ⟨S5000x5000, .f32⟩
  | 77 => ⟨S5000x1, .f32⟩
  | 78 => ⟨S1x5000, .f32⟩
  | 79 => ⟨S5000x5000, .f32⟩
  | 80 => ⟨S5000x5000, .f32⟩
  | 81 => ⟨S5000x5000, .f32⟩
  | 82 => ⟨S5000x5000, .f32⟩
  | 83 => ⟨S_, .f32⟩
  | 84 => ⟨S_, .f32⟩
  | 85 => ⟨S5000x5000, .f32⟩
  | 86 => ⟨S5000x5000, .f32⟩
  | 87 => ⟨S5000x5000, .f32⟩
  | 88 => ⟨S_, .f32⟩
  | 89 => ⟨S_, .f32⟩
  | 90 => ⟨S5000x5000, .f32⟩
  | 91 => ⟨S5000x5000, .f32⟩
  | 92 => ⟨S5000x5000, .f32⟩
  | 93 => ⟨S5000x1, .f32⟩
  | 94 => ⟨S1x5000, .f32⟩
  | 95 => ⟨S5000x5000, .f32⟩
  | 96 => ⟨S5000x5000, .f32⟩
  | 97 => ⟨S5000x5000, .f32⟩
  | 98 => ⟨S5000x5000, .f32⟩
  | 99 => ⟨S_, .f32⟩
  | 100 => ⟨S5000x5000, .f32⟩
  | 101 => ⟨S5000x5000, .f32⟩
  | 102 => ⟨S5000x5000, .f32⟩
  | 103 => ⟨S5000, .i32⟩
  | 104 => ⟨S_, .i1⟩
  | 105 => ⟨S5000, .i1⟩
  | 106 => ⟨S_, .i32⟩
  | 107 => ⟨S_, .i32⟩
  | 108 => ⟨S5000x5000, .f32⟩
  | 109 => ⟨S5000, .i32⟩
  | 110 => ⟨S_, .i32⟩
  | 111 => ⟨S_, .i32⟩
  | 112 => ⟨S5000, .i1⟩
  | 113 => ⟨S_, .i32⟩
  | 114 => ⟨S_, .i1⟩
  | 115 => ⟨S_, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S1x5000x2, .f32⟩

abbrev hbmTy0_1 (i : Nat) : BufTy := match i % 128 with
  | 0 => ⟨S_, .i32⟩
  | 1 => ⟨S_, .i32⟩
  | 2 => ⟨S_, .i32⟩
  | 3 => ⟨S1x5000, .f32⟩
  | 4 => ⟨S5000, .f32⟩
  | 5 => ⟨S_, .f32⟩
  | 6 => ⟨S5000, .f32⟩
  | 7 => ⟨S5000, .i1⟩
  | 8 => ⟨S_, .i32⟩
  | 9 => ⟨S5000, .i32⟩
  | 10 => ⟨S5000, .i1⟩
  | 11 => ⟨S5000, .i1⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S1, .i1⟩
  | 19 => ⟨S_, .i1⟩
  | 20 => ⟨S_, .i1⟩
  | 21 => ⟨S5000, .i1⟩
  | 22 => ⟨S5000, .i1⟩
  | 23 => ⟨S5000, .i1⟩
  | 24 => ⟨S5000, .i1⟩
  | 25 => ⟨S_, .i32⟩
  | 26 => ⟨S_, .i32⟩
  | 27 => ⟨S_, .i1⟩
  | 28 => ⟨S5000, .i1⟩
  | 29 => ⟨S_, .i32⟩
  | 30 => ⟨S5000, .i32⟩
  | 31 => ⟨S5000, .i1⟩
  | 32 => ⟨S_, .i32⟩
  | 33 => ⟨S5000, .i32⟩
  | 34 => ⟨S5000, .i32⟩
  | 35 => ⟨S5000, .i32⟩
  | 36 => ⟨S5000x1, .i32⟩
  | 37 => ⟨S5000, .i1⟩
  | 38 => ⟨S1x5000x2, .f32⟩
  | 39 => ⟨S1x1x2, .f32⟩
  | 40 => ⟨S1x5000x2, .f32⟩
  | 41 => ⟨S1x5000x2, .f32⟩
  | 42 => ⟨S1x2x3, .f32⟩
  | 43 => ⟨S1x2x2, .f32⟩
  | 44 => ⟨S1x5000x2, .f32⟩
  | 45 => ⟨S1x2x1, .f32⟩
  | 46 => ⟨S1x2, .f32⟩
  | 47 => ⟨S1x1x2, .f32⟩
  | 48 => ⟨S1x5000x2, .f32⟩
  | 49 => ⟨S1x5000x2, .f32⟩
  | 50 => ⟨S1x1x1, .f32⟩
  | 51 => ⟨S1, .f32⟩
  | 52 => ⟨S1x1x1, .f32⟩
  | 53 => ⟨S1, .f32⟩
  | 54 => ⟨S1x1x1, .f32⟩
  | 55 => ⟨S1, .f32⟩
  | 56 => ⟨S1x1x1, .f32⟩
  | 57 => ⟨S1, .f32⟩
  | 58 => ⟨S1x1, .f32⟩
  | 59 => ⟨S1x1, .f32⟩
  | 60 => ⟨S1x1, .f32⟩
  | 61 => ⟨S1x1, .f32⟩
  | 62 => ⟨S1x4, .f32⟩
  | 63 => ⟨S4, .f32⟩
  | 64 => ⟨S1x5000x4, .f32⟩
  | 65 => ⟨S1x1x4, .f32⟩
  | 66 => ⟨S1x5000x4, .f32⟩
  | 67 => ⟨S1x5000x4, .f32⟩
  | 68 => ⟨S1x1x4, .f32⟩
  | 69 => ⟨S1x5000x4, .f32⟩
  | 70 => ⟨S1x5000x4, .f32⟩
  | 71 => ⟨S1x5000x6, .f32⟩
  | 72 => ⟨S1x5000x2, .f32⟩
  | 73 => ⟨S1x1x2, .f32⟩
  | 74 => ⟨S1x5000x2, .f32⟩
  | 75 => ⟨S1x5000x2, .f32⟩
  | 76 => ⟨S1x2x3, .f32⟩
  | 77 => ⟨S1x2x2, .f32⟩
  | 78 => ⟨S1x5000x2, .f32⟩
  | 79 => ⟨S1x2x1, .f32⟩
  | 80 => ⟨S1x2, .f32⟩
  | 81 => ⟨S1x1x2, .f32⟩
  | 82 => ⟨S1x5000x2, .f32⟩
  | 83 => ⟨S1x5000x2, .f32⟩
  | 84 => ⟨S1x1x1, .f32⟩
  | 85 => ⟨S1, .f32⟩
  | 86 => ⟨S1x1x1, .f32⟩
  | 87 => ⟨S1, .f32⟩
  | 88 => ⟨S1x1x1, .f32⟩
  | 89 => ⟨S1, .f32⟩
  | 90 => ⟨S1x1x1, .f32⟩
  | 91 => ⟨S1, .f32⟩
  | 92 => ⟨S1x1, .f32⟩
  | 93 => ⟨S1x1, .f32⟩
  | 94 => ⟨S1x1, .f32⟩
  | 95 => ⟨S1x1, .f32⟩
  | 96 => ⟨S1x4, .f32⟩
  | 97 => ⟨S4, .f32⟩
  | 98 => ⟨S1x5000x4, .f32⟩
  | 99 => ⟨S1x1x4, .f32⟩
  | 100 => ⟨S1x5000x4, .f32⟩
  | 101 => ⟨S1x5000x4, .f32⟩
  | 102 => ⟨S1x1x4, .f32⟩
  | 103 => ⟨S1x5000x4, .f32⟩
  | 104 => ⟨S1x5000x4, .f32⟩
  | 105 => ⟨S1x5000x6, .f32⟩
  | 106 => ⟨S1x5000x2, .f32⟩
  | 107 => ⟨S1x5000x4, .f32⟩
  | 108 => ⟨S1x1x4, .f32⟩
  | 109 => ⟨S1x5000x4, .f32⟩
  | 110 => ⟨S1x5000x4, .f32⟩
  | 111 => ⟨S1x5000x2, .f32⟩
  | 112 => ⟨S1x1x1x5000x1x2, .f32⟩
  | 113 => ⟨S1x1x1x5000x2x2, .f32⟩
  | 114 => ⟨S1x5000x4, .f32⟩
  | 115 => ⟨S1x5000x4, .f32⟩
  | 116 => ⟨S1x5000x4, .f32⟩
  | 117 => ⟨S1x1x4, .f32⟩
  | 118 => ⟨S1x5000x4, .f32⟩
  | 119 => ⟨S1x5000x4, .f32⟩
  | 120 => ⟨S1x1x1x5000x1x2, .f32⟩
  | 121 => ⟨S1x1x1x5000x2x2, .f32⟩
  | 122 => ⟨S1x5000x4, .f32⟩
  | 123 => ⟨S1x5000x4, .f32⟩
  | 124 => ⟨S5000, .f32⟩
  | 125 => ⟨S1x5000x1, .f32⟩
  | 126 => ⟨S1x5000x1, .f32⟩
  | 127 => ⟨S1x5000x11, .f32⟩
  | _ => ⟨S1x5000x2, .f32⟩

abbrev hbmTy0_2 (i : Nat) : BufTy := match i % 128 with
  | 0 => ⟨S1x5000x11, .f32⟩
  | 1 => ⟨S1x5000x11, .f32⟩
  | _ => ⟨S1x5000x2, .f32⟩

abbrev hbmTy (i : Nat) : BufTy := match i / 128 with
  | 0 => hbmTy0_0 i
  | 1 => hbmTy0_1 i
  | 2 => hbmTy0_2 i
  | _ => ⟨S1x5000x2, .f32⟩

abbrev bufTy : (tb : Table) → Fin (tcTables nBuf tb) → BufTy
  | .hbm, ⟨i, _⟩ => hbmTy i
  | _, _ => ⟨S1x5000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1_0 : Ref sig .tc := ⟨.hbm, 32, rfl⟩
abbrev main_v21 : Ref sig .tc := ⟨.hbm, 33, rfl⟩
abbrev main_c : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_call1_v0 : Ref sig .tc := ⟨.hbm, 53, rfl⟩
abbrev main_call1_v1 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_call2_v0 : Ref sig .tc := ⟨.hbm, 58, rfl⟩
abbrev main_call2_v1 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_7 : Ref sig .tc := ⟨.hbm, 83, rfl⟩
abbrev main_call3_v0 : Ref sig .tc := ⟨.hbm, 84, rfl⟩
abbrev main_call3_v1 : Ref sig .tc := ⟨.hbm, 85, rfl⟩
abbrev main_v63 : Ref sig .tc := ⟨.hbm, 86, rfl⟩
abbrev main_v64 : Ref sig .tc := ⟨.hbm, 87, rfl⟩
abbrev main_cst_8 : Ref sig .tc := ⟨.hbm, 88, rfl⟩
abbrev main_call4_v0 : Ref sig .tc := ⟨.hbm, 89, rfl⟩
abbrev main_call4_v1 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_9 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_10 : Ref sig .tc := ⟨.hbm, 104, rfl⟩
abbrev main_v77 : Ref sig .tc := ⟨.hbm, 105, rfl⟩
abbrev main_c_11 : Ref sig .tc := ⟨.hbm, 106, rfl⟩
abbrev main_c_12 : Ref sig .tc := ⟨.hbm, 107, rfl⟩
abbrev main_v78_0 : Ref sig .tc := ⟨.hbm, 108, rfl⟩
abbrev main_v78_1 : Ref sig .tc := ⟨.hbm, 109, rfl⟩
abbrev main_v78_2 : Ref sig .tc := ⟨.hbm, 110, rfl⟩
abbrev main_v78_3 : Ref sig .tc := ⟨.hbm, 111, rfl⟩
abbrev main_v78_4 : Ref sig .tc := ⟨.hbm, 112, rfl⟩
abbrev main_while0c_c_20 : Ref sig .tc := ⟨.hbm, 113, rfl⟩
abbrev main_while0c_v179 : Ref sig .tc := ⟨.hbm, 114, rfl⟩
abbrev main_while0b_c_20 : Ref sig .tc := ⟨.hbm, 115, rfl⟩
abbrev main_while0b_v179 : Ref sig .tc := ⟨.hbm, 116, rfl⟩
abbrev main_while0b_v180 : Ref sig .tc := ⟨.hbm, 117, rfl⟩
abbrev main_while0b_c_21 : Ref sig .tc := ⟨.hbm, 118, rfl⟩
abbrev main_while0b_v181 : Ref sig .tc := ⟨.hbm, 119, rfl⟩
abbrev main_while0b_c_22 : Ref sig .tc := ⟨.hbm, 120, rfl⟩
abbrev main_while0b_v182 : Ref sig .tc := ⟨.hbm, 121, rfl⟩
abbrev main_while0b_v183 : Ref sig .tc := ⟨.hbm, 122, rfl⟩
abbrev main_while0b_c_23 : Ref sig .tc := ⟨.hbm, 123, rfl⟩
abbrev main_while0b_c_24 : Ref sig .tc := ⟨.hbm, 124, rfl⟩
abbrev main_while0b_v184 : Ref sig .tc := ⟨.hbm, 125, rfl⟩
abbrev main_while0b_c_25 : Ref sig .tc := ⟨.hbm, 126, rfl⟩
abbrev main_while0b_c_26 : Ref sig .tc := ⟨.hbm, 127, rfl⟩
abbrev main_while0b_v185 : Ref sig .tc := ⟨.hbm, 128, rfl⟩
abbrev main_while0b_c_27 : Ref sig .tc := ⟨.hbm, 129, rfl⟩
abbrev main_while0b_v186 : Ref sig .tc := ⟨.hbm, 130, rfl⟩
abbrev main_while0b_v187 : Ref sig .tc := ⟨.hbm, 131, rfl⟩
abbrev main_while0b_v188 : Ref sig .tc := ⟨.hbm, 132, rfl⟩
abbrev main_while0b_cst_28 : Ref sig .tc := ⟨.hbm, 133, rfl⟩
abbrev main_while0b_v189 : Ref sig .tc := ⟨.hbm, 134, rfl⟩
abbrev main_while0b_v190 : Ref sig .tc := ⟨.hbm, 135, rfl⟩
abbrev main_while0b_v191 : Ref sig .tc := ⟨.hbm, 136, rfl⟩
abbrev main_while0b_v192 : Ref sig .tc := ⟨.hbm, 137, rfl⟩
abbrev main_while0b_v193 : Ref sig .tc := ⟨.hbm, 138, rfl⟩
abbrev main_while0b_v194 : Ref sig .tc := ⟨.hbm, 139, rfl⟩
abbrev main_while0b_c_29 : Ref sig .tc := ⟨.hbm, 140, rfl⟩
abbrev main_while0b_v195 : Ref sig .tc := ⟨.hbm, 141, rfl⟩
abbrev main_while0b_v196 : Ref sig .tc := ⟨.hbm, 142, rfl⟩
abbrev main_while0b_c_30 : Ref sig .tc := ⟨.hbm, 143, rfl⟩
abbrev main_while0b_v197 : Ref sig .tc := ⟨.hbm, 144, rfl⟩
abbrev main_while0b_v198 : Ref sig .tc := ⟨.hbm, 145, rfl⟩
abbrev main_while0b_v199 : Ref sig .tc := ⟨.hbm, 146, rfl⟩
abbrev main_while0b_v200 : Ref sig .tc := ⟨.hbm, 147, rfl⟩
abbrev main_while0b_c_31 : Ref sig .tc := ⟨.hbm, 148, rfl⟩
abbrev main_while0b_v201 : Ref sig .tc := ⟨.hbm, 149, rfl⟩
abbrev main_while0b_v202 : Ref sig .tc := ⟨.hbm, 150, rfl⟩
abbrev main_while0b_v203 : Ref sig .tc := ⟨.hbm, 151, rfl⟩
abbrev main_while0b_v204 : Ref sig .tc := ⟨.hbm, 152, rfl⟩
abbrev main_while0b_c_32 : Ref sig .tc := ⟨.hbm, 153, rfl⟩
abbrev main_while0b_v205 : Ref sig .tc := ⟨.hbm, 154, rfl⟩
abbrev main_c_13 : Ref sig .tc := ⟨.hbm, 155, rfl⟩
abbrev main_v79 : Ref sig .tc := ⟨.hbm, 156, rfl⟩
abbrev main_c_14 : Ref sig .tc := ⟨.hbm, 157, rfl⟩
abbrev main_v80 : Ref sig .tc := ⟨.hbm, 158, rfl⟩
abbrev main_v81 : Ref sig .tc := ⟨.hbm, 159, rfl⟩
abbrev main_c_15 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩

abbrev nD : Nat := 1
abbrev τ : Topo := Topo.v7x

variable {F : FTy → Type} [FloatOps F]

abbrev main_while0_count : Scf.Loop 32 := ⟨0#32, 5000#32, 1#32⟩
-- ==== Proof.KI.Nms.lean ====
/-
  What one grid point of the suppression kernel does to its two staging buffers, and that its program does it.

  The kernel goes over five blocks of 1024 boxes, in score order. At block `i` it reads the block's coordinates, finds
  which of its boxes a kept box of an earlier block suppresses (a counted loop over the earlier blocks), and then settles
  the suppression inside the block by repeating one sweep until nothing changes or 1024 sweeps are done (a while loop).
  The result is one row of zeros and ones, stored into row `i` of the result's staging buffer; at block 0 the whole result
  buffer is first filled with zeros.
-/
module

public import proofs.«01_k».proof.Proof.Gen.KernelIdeal.Skeleton
public import proofs.«01_k».proof.Proof.Gen.KernelIdeal.Regions
public import Idealize.ShloMosaic.Lib.Pipeline.Sound
public import Idealize.ShloMosaic.Lib.Tactic

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open sWPT (consume produce)

variable {F : FTy → Type} [FloatOps F]

/-- The ghost algebra: the rounds library's over the machine's cells. -/
abbrev UR (nD : Nat) (τ : Topo) : Type := URounds (GSem nD τ sig) Unit

local notation "𝕄" => MT nD τ sig Unit (Elt F) ℕ (UR nD τ) ℕ

/-- The while loop's variant is a natural number: the sweeps still allowed. -/
abbrev 𝒱₀ : Variants := Variants.nat

/-- Contents of the staging buffer of the boxes and of the result's. -/
abbrev Boxes (F : FTy → Type) : Type := (cc0_stg0_0 : Ref sig .tc).ty.Contents (Elt F)
abbrev Keep (F : FTy → Type) : Type := (cc0_stg1_0 : Ref sig .tc).ty.Contents (Elt F)

/-! ## The pure function -/

/-- What the while loop carries: the sweeps done, how much the last one changed, and the row. -/
abbrev SweepState (F : FTy → Type) [FloatOps F] : Type := BitVec 32 × F .f32 × FVec F S1x1024 .f32

/-- The while loop's test: the last sweep changed something, and fewer than 1024 are done. -/
def again (s : SweepState F) : BitVec 1 :=
  Scalar.andi (Scalar.cmpf .ogt s.2.1 (Scalar.ofBits .f32 0x3F000000#32)) (Scalar.cmpi .slt s.1 1024#32)

/-- The while loop with `n` sweeps still allowed. -/
def sweeps (eye u : FVec F S1024x1024 .f32) (cand : FVec F S1x1024 .f32) : ℕ → SweepState F → SweepState F
  | 0, s => s
  | n + 1, s =>
    if again s = 1#1 then
      sweeps eye u cand n (Scalar.addi s.1 1#32, k0_pay2 eye u cand s.2.2, k0_pay1 eye u cand s.2.2)
    else s

theorem inb_block (k : ℕ) (hk : k < 5) : ∀ a, (![k, 0, 0] : Fin 3 → ℕ) a + S1x8x1024.size a ≤ S5x8x1024.size a := by
  intro a; fin_cases a <;> simp [S1x8x1024, S5x8x1024] <;> omega

theorem inb_row (k : ℕ) (hk : k < 5) : ∀ a, (![k, 0] : Fin 2 → ℕ) a + S1x1024.size a ≤ S5x1024.size a := by
  intro a; fin_cases a <;> simp [S1x1024, S5x1024] <;> omega

/-- Block `k` of the boxes, and row `k` of the result. -/
def block (f : Boxes F) (k : ℕ) (hk : k < 5) : Vec F S1x8x1024 .f32 :=
  ((Memref.whole cc0_stg0_0).access (Rect.unit (s := S5x8x1024) ![k, 0, 0] S1x8x1024.size (inb_block k hk)) :
    View sig .tc _ _ _).read (Elt F) f

def row (g : Keep F) (k : ℕ) (hk : k < 5) : Vec F S1x1024 .f32 :=
  ((Memref.whole cc0_stg1_0).access (Rect.unit (s := S5x1024) ![k, 0] S1x1024.size (inb_row k hk)) :
    View sig .tc _ _ _).read (Elt F) g

/-- The result with row `k` replaced. -/
def setRow (g : Keep F) (k : ℕ) (hk : k < 5) (r : FVec F S1x1024 .f32) : Keep F :=
  ((Memref.whole cc0_stg1_0).access (Rect.unit (s := S5x1024) ![k, 0] S1x1024.size (inb_row k hk)) :
    View sig .tc _ _ _).write (Elt F) g r Finset.univ

/-- The suppression of block `b` by the kept boxes of the first `n` blocks. -/
def crossed (b : Vec F S1x8x1024 .f32) (f : Boxes F) (g : Keep F) : ℕ → FVec F S1024x1 .f32
  | 0 => k0_pay20
  | k + 1 =>
    if hk : k < 5 then
      k0_pay21 (crossed b f g k)
        (k0_pay3 (k0_pay15 b) (k0_pay16 b) (k0_pay17 b) (k0_pay18 b) (k0_pay19 b) (block f k hk)) (k0_pay4 (row g k hk))
    else crossed b f g k

/-- Which pairs of one block suppress: entry `(j, i)` is one when box `j` precedes box `i` and overlaps it. -/
def pairs (b : Vec F S1x8x1024 .f32) : FVec F S1024x1024 .f32 :=
  k0_pay24 (k0_pay9 b) (k0_pay10 b) (k0_pay11 b) (k0_pay12 b) (k0_pay13 b) (iota .tc S1024x1024 32 [0] iota_S1024x1024_d0_w32)
    (iota .tc S1024x1024 32 [1] iota_S1024x1024_d1_w32) (k0_pay15 b) (k0_pay16 b) (k0_pay17 b) (k0_pay18 b) (k0_pay19 b)

/-- The row settled inside a block from the candidates `cand`. -/
def settled (b : Vec F S1x8x1024 .f32) (cand : FVec F S1x1024 .f32) : FVec F S1x1024 .f32 :=
  (sweeps k0_pay14 (pairs b) cand 1024 (0#32, Scalar.ofBits .f32 0x3F800000#32, cand)).2.2

/-- The row the kernel computes at block `k`. -/
def keepRow (f : Boxes F) (g : Keep F) (k : ℕ) (hk : k < 5) : FVec F S1x1024 .f32 :=
  settled (block f k hk) (k0_pay23 k0_pay14 (crossed (block f k hk) f g k))

/-- The result's buffer as block `k` finds it: filled with zeros at the first. -/
def cleared (g : Keep F) (k : ℕ) : Keep F := if k = 0 then k0_pay7 else g

/-- What the kernel leaves in the result's buffer at block `k`. -/
def nmsStep (f : Boxes F) (g : Keep F) (k : ℕ) (hk : k < 5) : Keep F :=
  setRow (cleared g k) k hk (keepRow f (cleared g k) k hk)

/-! ## The rectangles of the program are these blocks and rows -/

theorem read_block {off : Fin 3 → ℕ} (inb) (k : ℕ) (hk : k < 5) (h : off = ![k, 0, 0]) (f : Boxes F) :
    (Memref.whole cc0_stg0_0).view.readAt (Elt F) (Rect.unit (s := S5x8x1024) off S1x8x1024.size inb).toLoadRect f = block f k hk := by
  subst h; rfl

theorem read_row {off : Fin 2 → ℕ} (inb) (k : ℕ) (hk : k < 5) (h : off = ![k, 0]) (g : Keep F) :
    (Memref.whole cc0_stg1_0).view.readAt (Elt F) (Rect.unit (s := S5x1024) off S1x1024.size inb).toLoadRect g = row g k hk := by
  subst h; rfl

theorem write_row {off : Fin 2 → ℕ} (inb) (k : ℕ) (hk : k < 5) (h : off = ![k, 0]) (g : Keep F) (r : FVec F S1x1024 .f32) :
    ((Memref.whole cc0_stg1_0).access (Rect.unit (s := S5x1024) off S1x1024.size inb) :
      View sig .tc _ _ _).write (Elt F) g r Finset.univ = setRow g k hk r := by
  subst h; rfl

theorem write_all (inb) (g w : Keep F) :
    ((Memref.whole cc0_stg1_0).access (Rect.unit (s := S5x1024) ![0, 0] S5x1024.size inb) :
      View sig .tc _ _ _).write (Elt F) g w Finset.univ = w :=
  Memref.write_access_unit_zero_univ (Elt F) cc0_stg1_0 (funext fun a => by fin_cases a <;> rfl) _ g w

/-! ## The while loop -/

/-- The while loop's specification with `n` sweeps allowed. -/
def spec (eye u : FVec F S1024x1024 .f32) (cand : FVec F S1x1024 .f32) (n : ℕ) (s : SweepState F) : sWPT 𝕄 (SweepState F) :=
  pure (sweeps eye u cand n s)

theorem spec_apply (eye u : FVec F S1024x1024 .f32) (cand : FVec F S1x1024 .f32) (n : ℕ) (s : SweepState F)
    (K : SweepState F → sProp 𝕄) : spec eye u cand n s K = K (sweeps eye u cand n s) := rfl

theorem andi_zero (b : BitVec 1) : Scalar.andi b 0#1 = 0#1 := by revert b; decide

/-- The counter after all but `n` of the sweeps. -/
abbrev done (n : ℕ) : BitVec 32 := BitVec.ofNat 32 (1024 - n)

theorem done_succ (n : ℕ) (hn : n + 1 ≤ 1024) : Scalar.addi (done (n + 1)) 1#32 = done n := by
  show BitVec.ofNat 32 (1024 - (n + 1)) + BitVec.ofNat 32 1 = BitVec.ofNat 32 (1024 - n)
  rw [← BitVec.ofNat_add]; congr 1; omega

/-- The while loop's label meets its specification. -/
theorem spec_le (c : Dev nD) (E : Set ℕ) (i : grid0.Coords) (eye u : FVec F S1024x1024 .f32) (cand : FVec F S1x1024 .f32) :
    ∀ n, n ≤ 1024 → ∀ (ch : F .f32) (k : FVec F S1x1024 .f32) (K : SweepState F → sProp 𝕄), spec eye u cand n (done n, ch, k) K
      ⊢ wp frame (wpE (defs₀ (F := F)) 𝒱₀ (c : Thread nD τ) (some n)) E
          (defs₀ (F := F) .tc 2 ⟨i, eye, u, cand, done n, ch, k⟩) K := by
  intro n
  induction n with
  | zero =>
    intro _ ch k K
    rw [spec_apply]
    show _ ⊢ wp frame (wpE (defs₀ (F := F)) 𝒱₀ (c : Thread nD τ) (some 0)) E (cc0_while1 i eye u cand (done 0) ch k) K
    simp only [cc0_while1_eq_skeleton]; unfold cc0_while1_skel
    have h : ¬ Scalar.andi (Scalar.cmpf .ogt ch (Scalar.ofBits .f32 0x3F000000#32)) (Scalar.cmpi .slt (done 0) 1024#32) = 1#1 := by
      rw [show Scalar.cmpi .slt (done 0) 1024#32 = 0#1 by decide, andi_zero]; decide
    simp only [h, ↓reduceIte, Prog.pure_eq_ret]
    iintro Hk
    rw [wp_ret]; imodintro
    rw [sweeps]
    iexact Hk
  | succ n ih =>
    intro hn ch k K
    rw [spec_apply]
    show _ ⊢ wp frame (wpE (defs₀ (F := F)) 𝒱₀ (c : Thread nD τ) (some (n + 1))) E (cc0_while1 i eye u cand (done (n + 1)) ch k) K
    simp only [cc0_while1_eq_skeleton]; unfold cc0_while1_skel
    by_cases h : Scalar.andi (Scalar.cmpf .ogt ch (Scalar.ofBits .f32 0x3F000000#32)) (Scalar.cmpi .slt (done (n + 1)) 1024#32) = 1#1
    · simp only [h, ↓reduceIte, Prog.lift, Prog.bind_op, Prog.bind_ret, Prog.pure_eq_ret]
      have hs : sweeps eye u cand (n + 1) (done (n + 1), ch, k) = sweeps eye u cand n (done n, k0_pay2 eye u cand k, k0_pay1 eye u cand k) := by
        rw [sweeps, if_pos (show again (done (n + 1), ch, k) = 1#1 from h), done_succ n hn]
      rw [hs, done_succ n hn]
      iintro Hk
      iapply (wp_call_spec 𝒱₀ (c : Thread nD τ) (some (n + 1)) E (spec eye u cand n (done n, k0_pay2 eye u cand k, k0_pay1 eye u cand k)) n
        (fun u hu => by cases hu; exact Nat.lt_succ_self n) (ih (Nat.le_of_succ_le hn) (k0_pay2 eye u cand k) (k0_pay1 eye u cand k)))
      rw [spec_apply]
      rw [wp_ret]; imodintro
      iexact Hk
    · simp only [h, ↓reduceIte, Prog.pure_eq_ret]
      have hs : sweeps eye u cand (n + 1) (done (n + 1), ch, k) = (done (n + 1), ch, k) := by
        rw [sweeps, if_neg (show ¬ again (done (n + 1), ch, k) = 1#1 from h)]
      rw [hs]
      iintro Hk
      rw [wp_ret]; imodintro
      iexact Hk

/-! ## The counted loops -/

theorem trips1 : ∀ i : grid0.Coords, (k0_t1_loop i).trips = (i 0).val := by decide +kernel
theorem trips2 : ∀ i : grid0.Coords, (k0_t2_loop i).trips = 0 := by decide +kernel

theorem coord_lt (i : grid0.Coords) : (i 0).val < 5 := (i 0).isLt

variable (c : Dev nD)

/-- The two staging buffers held. -/
abbrev bufs (f : Boxes F) (g : Keep F) : sProp 𝕄 :=
  iprop((((c : Thread nD τ).loc cc0_stg0_0) ↦{fullShare} f) ∗ (((c : Thread nD τ).loc cc0_stg1_0) ↦{fullShare} g))

/-- The first loop's invariant: after `k` trips the accumulator is the suppression by the first `k` blocks. -/
def inv1 (b : Vec F S1x8x1024 .f32) (f : Boxes F) (g : Keep F) (k : ℕ) (a : FVec F S1024x1 .f32) : sProp 𝕄 :=
  iprop(⌜a = crossed b f g k⌝ ∗ bufs c f g)

theorem trip1 (i : grid0.Coords) (a0 : BitVec 32) (v7 v8 v9 v10 v17 : FVec F S1x1024 .f32) (v18 v19 : IVec S1024x1024 32) (v22 : FVec F S1024x1024 .f32)
    (v43 : FVec F S1024x1 .f32) (w44 : BitVec 32) (b : Vec F S1x8x1024 .f32) (f : Boxes F) (g : Keep F)
    (k : Fin (k0_t1_loop i).trips) (a : FVec F S1024x1 .f32) :
    inv1 c b f g k a
      ⊢ wp frame (wpE (defs₀ (F := F)) 𝒱₀ (c : Thread nD τ) none) Set.univ
          (k0_t1_body i (Memref.whole cc0_stg0_0) (Memref.isWhole_whole _) (Memref.whole cc0_stg1_0) (Memref.isWhole_whole _)
            a0 v7 v8 v9 v10 v17 v18 v19 v22 (k0_pay15 b) (k0_pay16 b) (k0_pay17 b) (k0_pay18 b) (k0_pay19 b) v43 0#32 w44 k a)
          (inv1 c b f g (k.val + 1)) := by
  have hk : k.val < 5 := (k.isLt.trans_eq (trips1 i)).trans (coord_lt i)
  unfold k0_t1_body
  simp only [k0_part1_eq_skeleton]; unfold k0_part1_skel
  simp only [Prog.lift, Prog.bind_op, Prog.bind_ret, Prog.pure_eq_ret]
  unfold inv1
  iintro ⟨%ha, H0, H1⟩
  iapply (wp_load 𝒱₀ (c : Thread nD τ) none Set.univ (m := Memref.whole cc0_stg0_0) (Finset.subset_univ _)) $$ H0; iintro H0
  iapply (wp_load 𝒱₀ (c : Thread nD τ) none Set.univ (m := Memref.whole cc0_stg1_0) (Finset.subset_univ _)) $$ H1; iintro H1
  rw [wp_ret]; imodintro
  isplitr
  · ipureintro
    rw [read_block _ k.val hk (k0_off2_eq i k), read_row _ k.val hk (k0_off3_eq i k), ha, crossed, dif_pos hk]
  isplitl [H0]; · iexact H0
  iexact H1

/-! ## The body -/

theorem first_iff : ∀ i : grid0.Coords,
    (Scalar.cmpi .ne (Scalar.extui (Scalar.cmpi .eq (BitVec.ofNat 32 (i 0).val) 0#32) : BitVec 32) 0#32 = 1#1) = ((i 0).val = 0) := by
  decide +kernel

/-- The loops of a block and its sweeps, from the block's coordinates `b`: the row settled, the buffers unchanged. -/
theorem part4_sound (i : grid0.Coords) (a0 w44 : BitVec 32) (b : Vec F S1x8x1024 .f32) (f : Boxes F) (g : Keep F)
    (kk : FVec F S1x1024 .f32 → Prog (TpuEff nD τ sig (Elt F) (Λ₀ F) .tc) PUnit) (Q : PUnit → sProp 𝕄) :
    iprop(bufs c f g ∗ (bufs c f g -∗ wp frame (wpE (defs₀ (F := F)) 𝒱₀ (c : Thread nD τ) none) Set.univ
        (kk (settled b (k0_pay23 k0_pay14 (crossed b f g (i 0).val)))) Q))
      ⊢ wp frame (wpE (defs₀ (F := F)) 𝒱₀ (c : Thread nD τ) none) Set.univ
          (k0_part4 i (Memref.whole cc0_stg0_0) (Memref.isWhole_whole _) (Memref.whole cc0_stg1_0) (Memref.isWhole_whole _)
            a0 (k0_pay9 b) (k0_pay10 b) (k0_pay11 b) (k0_pay12 b) (k0_pay13 b) (iota .tc S1024x1024 32 [0] iota_S1024x1024_d0_w32)
            (iota .tc S1024x1024 32 [1] iota_S1024x1024_d1_w32) k0_pay14 (k0_pay15 b) (k0_pay16 b) (k0_pay17 b) (k0_pay18 b) (k0_pay19 b)
            k0_pay20 0#32 w44 >>= kk) Q := by
  simp only [k0_part4_eq_skeleton]; unfold k0_part4_skel
  simp only [Prog.lift, Prog.bind_op, Prog.bind_ret, Prog.pure_eq_ret, Prog.bind_assoc]
  iintro ⟨⟨H0, H1⟩, Hk⟩
  iapply (Scf.wp_for_bind frame (wpE (defs₀ (F := F)) 𝒱₀ (c : Thread nD τ) none) Set.univ (k0_t1_loop i).lb (k0_t1_loop i).ub (k0_t1_loop i).st (k0_t1_ok i) _ _
    (inv1 c b f g) (trip1 c i a0 (k0_pay9 b) (k0_pay10 b) (k0_pay11 b) (k0_pay12 b) (k0_pay13 b) (iota .tc S1024x1024 32 [0] iota_S1024x1024_d0_w32)
      (iota .tc S1024x1024 32 [1] iota_S1024x1024_d1_w32) k0_pay14 k0_pay20 w44 b f g)) $$ [H0 H1]
  · unfold inv1
    isplitr; · ipureintro; rfl
    isplitl [H0]; · iexact H0
    iexact H1
  iintro %s Hinv
  unfold inv1; icases Hinv with ⟨%hs, H0, H1⟩
  iapply (Scf.wp_for_bind frame (wpE (defs₀ (F := F)) 𝒱₀ (c : Thread nD τ) none) Set.univ (k0_t2_loop i).lb (k0_t2_loop i).ub (k0_t2_loop i).st (k0_t2_ok i) _ _
    (fun _ a => iprop(⌜a = s⌝ ∗ bufs c f g)) (fun k => absurd (k.isLt.trans_eq (trips2 i)) (Nat.not_lt_zero _))) $$ [H0 H1]
  · isplitr; · ipureintro; rfl
    isplitl [H0]; · iexact H0
    iexact H1
  iintro %s' Hinv
  icases Hinv with ⟨%hs', H0, H1⟩
  have e : s' = crossed b f g (i 0).val := by rw [hs', hs]; exact congrArg _ (trips1 i)
  subst e
  iapply (wp_call_spec 𝒱₀ (c : Thread nD τ) none Set.univ (spec k0_pay14 (pairs b) (k0_pay23 k0_pay14 (crossed b f g (i 0).val)) 1024
    (done 1024, Scalar.ofBits .f32 0x3F800000#32, k0_pay23 k0_pay14 (crossed b f g (i 0).val))) 1024 (fun u hu => nomatch hu)
    (spec_le c Set.univ i _ _ _ 1024 le_rfl _ _))
  rw [spec_apply]
  iapply Hk
  isplitl [H0]; · iexact H0
  iexact H1

/-- The kernel at grid point `i`, from the boxes `f` and the result as found `g`: it hands back the boxes and the result
    with block `i` done. -/
theorem body_sound (i : grid0.Coords) (f : Boxes F) (g : Keep F) (Q : PUnit → sProp 𝕄) :
    iprop(bufs c f g ∗ (bufs c f (nmsStep f g (i 0).val (coord_lt i)) -∗ Q ⟨⟩))
      ⊢ wp frame (wpE (defs₀ (F := F)) 𝒱₀ (c : Thread nD τ) none) Set.univ
          (cc0__nms_body i (Memref.whole cc0_stg0_0) (Memref.isWhole_whole _) (Memref.whole cc0_stg1_0) (Memref.isWhole_whole _)) Q := by
  simp only [cc0__nms_body_eq_skeleton]; unfold cc0__nms_body_skel
  simp only [k0_part3_eq_skeleton]; unfold k0_part3_skel
  simp only [first_iff]
  -- both branches go on with the result cleared where block 0 clears it
  have tail (g' : Keep F) (hg : g' = cleared g (i 0).val) (b : Vec F S1x8x1024 .f32) (hb : b = block f (i 0).val (coord_lt i)) :
      iprop(bufs c f g' ∗ (bufs c f (nmsStep f g (i 0).val (coord_lt i)) -∗ Q ⟨⟩))
      ⊢ wp frame (wpE (defs₀ (F := F)) 𝒱₀ (c : Thread nD τ) none) Set.univ
        (k0_part4 i (Memref.whole cc0_stg0_0) (Memref.isWhole_whole _) (Memref.whole cc0_stg1_0) (Memref.isWhole_whole _)
            (BitVec.ofNat 32 (i 0).val) (k0_pay9 b) (k0_pay10 b) (k0_pay11 b) (k0_pay12 b) (k0_pay13 b) (iota .tc S1024x1024 32 [0] iota_S1024x1024_d0_w32)
            (iota .tc S1024x1024 32 [1] iota_S1024x1024_d1_w32) k0_pay14 (k0_pay15 b) (k0_pay16 b) (k0_pay17 b) (k0_pay18 b) (k0_pay19 b)
            k0_pay20 0#32 (Scalar.subi (BitVec.ofNat 32 (i 0).val) 0#32) >>= fun v =>
          .op (.load (Memref.whole cc0_stg1_0) (Rect.unit (s := S5x1024) (k0_off6 i) S1x1024.size (k0_off6_inb i)).toLoadRect (View.loadsAt_vmem h_S1x1024)) fun _ =>
          .op (.store (Memref.whole cc0_stg1_0) (Rect.unit (s := S5x1024) (k0_off6 i) S1x1024.size (k0_off6_inb i)) v Finset.univ (View.stores_vmem_bits_univ h_S1x1024 rfl) (.inl rfl)) fun _ =>
          .ret ⟨⟩) Q := by
    subst hg hb
    iintro ⟨Hb, Hk⟩
    iapply (part4_sound c i _ _ (block f (i 0).val (coord_lt i)) f (cleared g (i 0).val))
    isplitl [Hb]; · iexact Hb
    iintro ⟨H0, H1⟩
    iapply (wp_load 𝒱₀ (c : Thread nD τ) none Set.univ (m := Memref.whole cc0_stg1_0) (Finset.subset_univ _)) $$ H1; iintro H1
    iapply (wp_store 𝒱₀ (c : Thread nD τ) none Set.univ (m := Memref.whole cc0_stg1_0) (r := Rect.unit (s := S5x1024) (k0_off6 i) S1x1024.size (k0_off6_inb i)) (Mk := Finset.univ) (Finset.subset_univ _)) $$ H1; iintro H1
    rw [write_row _ (i 0).val (coord_lt i) (k0_off6_eq i), wp_ret]; imodintro
    iapply Hk
    isplitl [H0]; · iexact H0
    iexact H1
  iintro ⟨⟨H0, H1⟩, Hk⟩
  by_cases hi : (i 0).val = 0
  · rw [dif_pos hi]
    simp only [Prog.lift, Prog.bind_op, Prog.bind_ret, Prog.pure_eq_ret]
    iapply (wp_load 𝒱₀ (c : Thread nD τ) none Set.univ (m := Memref.whole cc0_stg1_0) (Finset.subset_univ _)) $$ H1; iintro H1
    iapply (wp_store 𝒱₀ (c : Thread nD τ) none Set.univ (m := Memref.whole cc0_stg1_0) (r := Rect.unit (s := S5x1024) ![0, 0] S5x1024.size inb_S5x1024_S5x1024_0_0) (Mk := Finset.univ) (Finset.subset_univ _)) $$ H1; iintro H1
    rw [write_all]
    iapply (wp_load 𝒱₀ (c : Thread nD τ) none Set.univ (m := Memref.whole cc0_stg0_0) (Finset.subset_univ _)) $$ H0; iintro H0
    iapply (tail k0_pay7 (by rw [cleared, if_pos hi]) _ (read_block _ _ _ (k0_off1_eq i) f))
    isplitr [Hk]
    · isplitl [H0]; · iexact H0
      iexact H1
    iexact Hk
  · rw [dif_neg hi]
    simp only [Prog.lift, Prog.bind_op, Prog.bind_ret, Prog.pure_eq_ret]
    iapply (wp_load 𝒱₀ (c : Thread nD τ) none Set.univ (m := Memref.whole cc0_stg0_0) (Finset.subset_univ _)) $$ H0; iintro H0
    iapply (tail g (by rw [cleared, if_neg hi]) _ (read_block _ _ _ (k0_off1_eq i) f))
    isplitr [Hk]
    · isplitl [H0]; · iexact H0
      iexact H1
    iexact Hk

end Cert.Proof.KI

end
-- ==== Proof.KI.Post.lean ====
/-
  What the second kernel does to its five staging buffers, and that its program does it.

  It reads the two box arrays (the predicted and the previous ones, one row per channel), the scores with the keep mask
  below them, and the six numbers of the affine map, and stores the sixteen rows of the result.
-/
module

public import proofs.«01_k».proof.Proof.KI.Nms

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR nD τ) ℕ

/-- Contents of the five staging buffers. -/
abbrev P0 (F : FTy → Type) : Type := (cc1_stg0_0 : Ref sig .tc).ty.Contents (Elt F)
abbrev P1 (F : FTy → Type) : Type := (cc1_stg1_0 : Ref sig .tc).ty.Contents (Elt F)
abbrev P2 (F : FTy → Type) : Type := (cc1_stg2_0 : Ref sig .tc).ty.Contents (Elt F)
abbrev P3 (F : FTy → Type) : Type := (cc1_stg3_0 : Ref sig .tc).ty.Contents (Elt F)
abbrev P4 (F : FTy → Type) : Type := (cc1_stg4_0 : Ref sig .tc).ty.Contents (Elt F)

/-- The channel arrays as loaded. -/
def chans0 (f : P0 F) : Vec F S8x5120 .f32 :=
  (Memref.whole cc1_stg0_0).view.readAt (Elt F) (Rect.unit (s := S8x5120) ![0, 0] S8x5120.size inb_S8x5120_S8x5120_0_0).toLoadRect f
def chans1 (f : P1 F) : Vec F S8x5120 .f32 :=
  (Memref.whole cc1_stg1_0).view.readAt (Elt F) (Rect.unit (s := S8x5120) ![0, 0] S8x5120.size inb_S8x5120_S8x5120_0_0).toLoadRect f
/-- The scores' row and the mask's row. -/
def scoreRow (f : P2 F) : Vec F S1x5120 .f32 :=
  (Memref.whole cc1_stg2_0).view.readAt (Elt F) (Rect.unit (s := S8x5120) ![0, 0] S1x5120.size inb_S8x5120_S1x5120_0_0).toLoadRect f
def maskRow (f : P2 F) : Vec F S1x5120 .f32 :=
  (Memref.whole cc1_stg2_0).view.readAt (Elt F) (Rect.unit (s := S8x5120) ![1, 0] S1x5120.size inb_S8x5120_S1x5120_1_0).toLoadRect f
/-- The row holding the affine map's numbers. -/
def mapRow (f : P3 F) : Vec F S1x128 .f32 :=
  (Memref.whole cc1_stg3_0).view.readAt (Elt F) (Rect.unit (s := S8x128) ![0, 0] S1x128.size inb_S8x128_S1x128_0_0).toLoadRect f

/-- The result from the loaded values: channels `x`, `y`, score row `s`, mask row `k`, map row `a`. -/
def postOf (x y : Vec F S8x5120 .f32) (s k : Vec F S1x5120 .f32) (a : Vec F S1x128 .f32) : FVec F S16x5120 .f32 :=
  let z : IVec S1x128 32 := iota .tc S1x128 32 [1] iota_S1x128_d1_w32
  let a0 := k1_pay2 a
  let a1 := k1_pay3 a
  let a2 := k1_pay4 a
  let a3 := k1_pay5 a
  let a4 := k1_pay8 k1_pay6 (k1_pay7 a)
  let a5 := k1_pay9 z a
  k1_pay1 (k1_pay13 a0 a1 a2 x) (k1_pay14 z a3 k1_pay6 (k1_pay7 a) a x) (k1_pay15 a0 x) (k1_pay16 k1_pay6 (k1_pay7 a) x)
    (k1_pay19 a0 (k1_pay17 x) k1_pay18) (k1_pay20 a4 (k1_pay10 x)) (k1_pay24 a0 a1 a2 y) (k1_pay25 a3 a4 a5 y)
    (k1_pay26 a0 y) (k1_pay27 a4 y) (k1_pay28 a0 y) (k1_pay29 a4 y) s k

/-- What the kernel leaves in the result's buffer. -/
def postValue (f0 : P0 F) (f1 : P1 F) (f2 : P2 F) (f3 : P3 F) : P4 F :=
  postOf (chans0 f0) (chans1 f1) (scoreRow f2) (maskRow f2) (mapRow f3)

theorem write_post (inb) (g w : P4 F) :
    ((Memref.whole cc1_stg4_0).access (Rect.unit (s := S16x5120) ![0, 0] S16x5120.size inb) :
      View sig .tc _ _ _).write (Elt F) g w Finset.univ = w :=
  Memref.write_access_unit_zero_univ (Elt F) cc1_stg4_0 (funext fun a => by fin_cases a <;> rfl) _ g w

variable (c : Dev nD)

/-- The five staging buffers held. -/
abbrev pbufs (f0 : P0 F) (f1 : P1 F) (f2 : P2 F) (f3 : P3 F) (f4 : P4 F) : sProp 𝕄 :=
  iprop((((c : Thread nD τ).loc cc1_stg0_0) ↦{fullShare} f0) ∗ (((c : Thread nD τ).loc cc1_stg1_0) ↦{fullShare} f1)
    ∗ (((c : Thread nD τ).loc cc1_stg2_0) ↦{fullShare} f2) ∗ (((c : Thread nD τ).loc cc1_stg3_0) ↦{fullShare} f3)
    ∗ (((c : Thread nD τ).loc cc1_stg4_0) ↦{fullShare} f4))

/-- The second kernel, from its four operands and anything in the result's buffer. -/
theorem post_sound (f0 : P0 F) (f1 : P1 F) (f2 : P2 F) (f3 : P3 F) (f4 : P4 F) (Q : PUnit → sProp 𝕄) :
    iprop(pbufs c f0 f1 f2 f3 f4 ∗ (pbufs c f0 f1 f2 f3 (postValue f0 f1 f2 f3) -∗ Q ⟨⟩))
      ⊢ wp frame (wpE (defs₀ (F := F)) 𝒱₀ (c : Thread nD τ) none) Set.univ
          (cc1__post_body (Memref.whole cc1_stg0_0) (Memref.isWhole_whole _) (Memref.whole cc1_stg1_0) (Memref.isWhole_whole _)
            (Memref.whole cc1_stg2_0) (Memref.isWhole_whole _) (Memref.whole cc1_stg3_0) (Memref.isWhole_whole _)
            (Memref.whole cc1_stg4_0) (Memref.isWhole_whole _)) Q := by
  simp only [cc1__post_body_eq_skeleton]; unfold cc1__post_body_skel
  simp only [k1_part1_eq_skeleton, k1_part2_eq_skeleton, k1_part3_eq_skeleton]; unfold k1_part1_skel k1_part2_skel k1_part3_skel
  simp only [Prog.lift, Prog.bind_op, Prog.bind_ret, Prog.pure_eq_ret]
  iintro ⟨⟨H0, H1, H2, H3, H4⟩, Hk⟩
  iapply (wp_load 𝒱₀ (c : Thread nD τ) none Set.univ (m := Memref.whole cc1_stg3_0) (Finset.subset_univ _)) $$ H3; iintro H3
  iapply (wp_load 𝒱₀ (c : Thread nD τ) none Set.univ (m := Memref.whole cc1_stg3_0) (Finset.subset_univ _)) $$ H3; iintro H3
  iapply (wp_load 𝒱₀ (c : Thread nD τ) none Set.univ (m := Memref.whole cc1_stg3_0) (Finset.subset_univ _)) $$ H3; iintro H3
  iapply (wp_load 𝒱₀ (c : Thread nD τ) none Set.univ (m := Memref.whole cc1_stg3_0) (Finset.subset_univ _)) $$ H3; iintro H3
  iapply (wp_load 𝒱₀ (c : Thread nD τ) none Set.univ (m := Memref.whole cc1_stg3_0) (Finset.subset_univ _)) $$ H3; iintro H3
  iapply (wp_load 𝒱₀ (c : Thread nD τ) none Set.univ (m := Memref.whole cc1_stg3_0) (Finset.subset_univ _)) $$ H3; iintro H3
  iapply (wp_load 𝒱₀ (c : Thread nD τ) none Set.univ (m := Memref.whole cc1_stg0_0) (Finset.subset_univ _)) $$ H0; iintro H0
  iapply (wp_load 𝒱₀ (c : Thread nD τ) none Set.univ (m := Memref.whole cc1_stg1_0) (Finset.subset_univ _)) $$ H1; iintro H1
  iapply (wp_load 𝒱₀ (c : Thread nD τ) none Set.univ (m := Memref.whole cc1_stg2_0) (Finset.subset_univ _)) $$ H2; iintro H2
  iapply (wp_load 𝒱₀ (c : Thread nD τ) none Set.univ (m := Memref.whole cc1_stg2_0) (Finset.subset_univ _)) $$ H2; iintro H2
  iapply (wp_load 𝒱₀ (c : Thread nD τ) none Set.univ (m := Memref.whole cc1_stg4_0) (Finset.subset_univ _)) $$ H4; iintro H4
  iapply (wp_store 𝒱₀ (c : Thread nD τ) none Set.univ (m := Memref.whole cc1_stg4_0)
    (r := Rect.unit (s := S16x5120) ![0, 0] S16x5120.size inb_S16x5120_S16x5120_0_0) (Mk := Finset.univ) (Finset.subset_univ _)) $$ H4; iintro H4
  rw [write_post, wp_ret]; imodintro
  iapply Hk
  isplitl [H0]; · iexact H0
  isplitl [H1]; · iexact H1
  isplitl [H2]; · iexact H2
  isplitl [H3]; · iexact H3
  iexact H4

end Cert.Proof.KI

end
-- ==== Proof.KI.Region.lean ====
/-
  The two kernel launches of the program, each as a step from the buffers' contents before it to their contents after.

  The first launch goes over five grid points with the boxes' array staged once and the result's staging buffer carried
  from point to point (`keepAfter`); it is written back after the last point. The second has one point.
-/
module

public import proofs.«01_k».proof.Proof.KI.Post
public import proofs.«01_k».proof.Proof.Gen.KernelIdeal.Points
public import Idealize.ShloMosaic.Lib.Pipeline.Frame
public import Idealize.ShloMosaic.Lib.Pipeline.RegionsLoop

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR nD τ) ℕ

/-- No core owes another anything: no level is assigned. -/
abbrev L : GSem nD τ sig → Finset Unit := fun _ => ∅
abbrev lv : GSem nD τ sig → Unit → ℕ := fun _ _ => 0

/-- The result's staging buffer after the first `n` blocks. -/
def keepAfter (f : Boxes F) : ℕ → Keep F
  | 0 => k0_pay7
  | n + 1 => if hn : n < 5 then nmsStep f (keepAfter f n) n hn else keepAfter f n

theorem keepAfter_succ (f : Boxes F) (n : ℕ) (hn : n < 5) : keepAfter f (n + 1) = nmsStep f (keepAfter f n) n hn := by
  rw [keepAfter, dif_pos hn]

/-- Block 0 clears the result, so what it finds there does not matter. -/
theorem nmsStep_first (f : Boxes F) (g g' : Keep F) (n : ℕ) (hn : n < 5) (h : n = 0) : nmsStep f g n hn = nmsStep f g' n hn := by
  unfold nmsStep cleared; rw [if_pos h, if_pos h]

variable (V : (c : Dev nD) → (b : Ref sig .tc) → Buf (Elt F) ((c : Thread nD τ).loc b))

/-! ## The first launch -/

namespace R0

/-- The boxes as staged at the first point. -/
def boxes (c : Dev nD) : Boxes F := (((cfg0 (F := F)).win 0).blk t0_0).view.read (Elt F) (V c main_v34)

/-- The launch's proof data from the buffers `V`. -/
def dat (c : Dev nD) : Dat τ (Elt F) Unit ℕ (UR nD τ) ℕ (cfg0 (F := F)) c where
  A w := V c (Pipeline.arrRef spec0 w)
  after w t := match w with
    | ⟨0, _⟩ => boxes V c
    | ⟨1, _⟩ => keepAfter (boxes V c) (t.val + 1)
  Φ _ := Pipeline.scopedRest spec0 c
  q _ := fullShare
  owed _ := 0

theorem coord (t : Fin grid0.N) : ((grid0.coords t) 0).val = t.val := by
  revert t; decide +kernel

theorem before_boxes (c : Dev nD) (t : Fin (cfg0 (F := F)).N) (d : ((cfg0 (F := F)).win 0).block.Idx → Elt F ((cfg0 (F := F)).win 0).elt) :
    (dat V c).before 0 t d = boxes V c := by
  by_cases ht : t.val = 0
  · have e : t = t0_0 := Fin.ext ht
    subst e
    rw [(dat V c).before_fetched 0 t0_0 ((fetch0_0 t0_0).mpr rfl)]; rfl
  · have h5 : t.val < 5 := t.isLt.trans_eq N_0
    rw [(dat V c).before_unfetched_in 0 rfl t (Bool.eq_false_iff.mpr fun h => ht (by have := (fetch0_0 t).mp h; omega)) (fun _ => rfl)]
    rfl

theorem before_keep (c : Dev nD) (t : Fin (cfg0 (F := F)).N) (ht : t.val ≠ 0) (d : ((cfg0 (F := F)).win 1).block.Idx → Elt F ((cfg0 (F := F)).win 1).elt) :
    (dat V c).before 1 t d = keepAfter (boxes V c) t.val := by
  have h5 : t.val < 5 := t.isLt.trans_eq N_0
  rw [(dat V c).before_out_kept 1 rfl t ht
    (Bool.eq_false_iff.mpr fun h => by have := (flush0_1 _).mp h; simp only at this; omega) (fun _ => rfl) (fun _ _ => rfl)]
  show keepAfter (boxes V c) (t.val - 1 + 1) = _
  congr 1; omega

set_option backward.isDefEq.respectTransparency.types false in
/-- The body at point `t` on either window's only staging buffer. -/
theorem body_at (c : Dev nD) (t : Fin (cfg0 (F := F)).N) (s0 s1 : Fin 1) :
    iprop(Pipeline.scopedRest spec0 c ∗ (dat V c).owesAt () t.castSucc
        ∗ (∃ d, owns (c : Thread nD τ) (stage0_0 s0) fullShare ((dat V c).before 0 t d))
        ∗ (∃ d, owns (c : Thread nD τ) (stage0_1 s1) fullShare ((dat V c).before 1 t d)))
      ⊢ wp frame (wpE (defs₀ (F := F)) 𝒱₀ (c : Thread nD τ) none) Set.univ
          (cc0__nms_body (grid0.coords t) (stage0_0 s0) (hstage0_0 s0) (stage0_1 s1) (hstage0_1 s1))
          fun _ => (iprop(Pipeline.scopedRest spec0 c ∗ (dat V c).owesAt () t.castSucc
            ∗ owns (c : Thread nD τ) (stage0_0 s0) fullShare ((dat V c).after 0 t)
            ∗ owns (c : Thread nD τ) (stage0_1 s1) fullShare ((dat V c).after 1 t)) : sProp 𝕄) := by
  obtain rfl : s0 = 0 := Subsingleton.elim _ _
  obtain rfl : s1 = 0 := Subsingleton.elim _ _
  simp only [stage0_0, stage0_1, owns_whole_eq]
  iintro ⟨HΦ, Howes, ⟨%d0, %f0, %hf0, H0⟩, ⟨%d1, %f1, %hf1, H1⟩⟩
  rw [before_boxes] at hf0
  subst hf0
  have h5 : t.val < 5 := t.isLt.trans_eq N_0
  have hstep : nmsStep (boxes V c) f1 ((grid0.coords t) 0).val (coord_lt _) = keepAfter (boxes V c) (t.val + 1) := by
    rw [keepAfter_succ _ _ h5]
    have e : ∀ n (hn : n < 5) (h : n = t.val), nmsStep (boxes V c) f1 n hn = nmsStep (boxes V c) f1 t.val h5 := by
      intro n hn h; subst h; rfl
    rw [e _ _ (coord t)]
    by_cases ht : t.val = 0
    · exact nmsStep_first _ _ _ _ _ ht
    · rw [hf1, before_keep V c t ht]
  iapply (body_sound c (grid0.coords t) (boxes V c) f1)
  isplitl [H0 H1]
  · isplitl [H0]; · iexact H0
    iexact H1
  iintro ⟨H0, H1⟩
  isplitl [HΦ]; · iexact HΦ
  isplitl [Howes]; · iexact Howes
  isplitl [H0]; · iexists _; isplitr; swap; (· iexact H0); ipureintro; rfl
  iexists _; isplitr; swap; (· iexact H1); ipureintro; exact hstep

theorem body_obligation (c : Dev nD) : BodyObligation (dat V c) (defs₀ (F := F)) 𝒱₀ () Set.univ := fun t => by
  rw [bigSep_W0, bigSep_W0]
  exact body_at V c t _ _

/-- The result's array after the launch. -/
def result (c : Dev nD) : Buf (Elt F) ((c : Thread nD τ).loc main_v35) := (dat V c).arrAt 1 (cfg0 (F := F)).N

end R0

/-! ## The second launch -/

namespace R1

/-- The four operands as staged. -/
def in0 (c : Dev nD) : P0 F := (((cfg1 (F := F)).win 0).blk t1_0).view.read (Elt F) (V c main_v51)
def in1 (c : Dev nD) : P1 F := (((cfg1 (F := F)).win 1).blk t1_0).view.read (Elt F) (V c main_v58)
def in2 (c : Dev nD) : P2 F := (((cfg1 (F := F)).win 2).blk t1_0).view.read (Elt F) (V c main_v67)
def in3 (c : Dev nD) : P3 F := (((cfg1 (F := F)).win 3).blk t1_0).view.read (Elt F) (V c main_v74)

/-- What is stored. -/
def out (c : Dev nD) : P4 F := postValue (in0 V c) (in1 V c) (in2 V c) (in3 V c)

/-- The launch's proof data from the buffers `V`. -/
def dat (c : Dev nD) : Dat τ (Elt F) Unit ℕ (UR nD τ) ℕ (cfg1 (F := F)) c where
  A w := V c (Pipeline.arrRef spec1 w)
  after w _ := match w with
    | ⟨0, _⟩ => in0 V c
    | ⟨1, _⟩ => in1 V c
    | ⟨2, _⟩ => in2 V c
    | ⟨3, _⟩ => in3 V c
    | ⟨4, _⟩ => out V c
  Φ _ := Pipeline.scopedRest spec1 c
  q _ := fullShare
  owed _ := 0

theorem before0 (c : Dev nD) (t : Fin (cfg1 (F := F)).N) (d) : (dat V c).before 0 t d = in0 V c := by
  obtain rfl := fin_N1 t
  rw [(dat V c).before_fetched 0 t1_0 (fetch1_0 t1_0)]; rfl
theorem before1 (c : Dev nD) (t : Fin (cfg1 (F := F)).N) (d) : (dat V c).before 1 t d = in1 V c := by
  obtain rfl := fin_N1 t
  rw [(dat V c).before_fetched 1 t1_0 (fetch1_1 t1_0)]; rfl
theorem before2 (c : Dev nD) (t : Fin (cfg1 (F := F)).N) (d) : (dat V c).before 2 t d = in2 V c := by
  obtain rfl := fin_N1 t
  rw [(dat V c).before_fetched 2 t1_0 (fetch1_2 t1_0)]; rfl
theorem before3 (c : Dev nD) (t : Fin (cfg1 (F := F)).N) (d) : (dat V c).before 3 t d = in3 V c := by
  obtain rfl := fin_N1 t
  rw [(dat V c).before_fetched 3 t1_0 (fetch1_3 t1_0)]; rfl

set_option backward.isDefEq.respectTransparency.types false in
/-- The body at the one point on each window's only staging buffer. -/
theorem body_at (c : Dev nD) (t : Fin (cfg1 (F := F)).N) :
    iprop(Pipeline.scopedRest spec1 c ∗ (dat V c).owesAt () t.castSucc
        ∗ (∃ d, owns (c : Thread nD τ) (stage1_0 0) fullShare ((dat V c).before 0 t d))
        ∗ (∃ d, owns (c : Thread nD τ) (stage1_1 0) fullShare ((dat V c).before 1 t d))
        ∗ (∃ d, owns (c : Thread nD τ) (stage1_2 0) fullShare ((dat V c).before 2 t d))
        ∗ (∃ d, owns (c : Thread nD τ) (stage1_3 0) fullShare ((dat V c).before 3 t d))
        ∗ (∃ d, owns (c : Thread nD τ) (stage1_4 0) fullShare ((dat V c).before 4 t d)))
      ⊢ wp frame (wpE (defs₀ (F := F)) 𝒱₀ (c : Thread nD τ) none) Set.univ
          (cc1__post_body (stage1_0 0) (hstage1_0 0) (stage1_1 0) (hstage1_1 0) (stage1_2 0) (hstage1_2 0) (stage1_3 0) (hstage1_3 0)
            (stage1_4 0) (hstage1_4 0))
          fun _ => (iprop(Pipeline.scopedRest spec1 c ∗ (dat V c).owesAt () t.castSucc
            ∗ owns (c : Thread nD τ) (stage1_0 0) fullShare ((dat V c).after 0 t)
            ∗ owns (c : Thread nD τ) (stage1_1 0) fullShare ((dat V c).after 1 t)
            ∗ owns (c : Thread nD τ) (stage1_2 0) fullShare ((dat V c).after 2 t)
            ∗ owns (c : Thread nD τ) (stage1_3 0) fullShare ((dat V c).after 3 t)
            ∗ owns (c : Thread nD τ) (stage1_4 0) fullShare ((dat V c).after 4 t)) : sProp 𝕄) := by
  simp only [stage1_0, stage1_1, stage1_2, stage1_3, stage1_4, owns_whole_eq]
  iintro ⟨HΦ, Howes, ⟨%d0, %f0, %hf0, H0⟩, ⟨%d1, %f1, %hf1, H1⟩, ⟨%d2, %f2, %hf2, H2⟩, ⟨%d3, %f3, %hf3, H3⟩, ⟨%d4, %f4, -, H4⟩⟩
  rw [before0] at hf0
  rw [before1] at hf1
  rw [before2] at hf2
  rw [before3] at hf3
  subst hf0 hf1 hf2 hf3
  iapply (post_sound c (in0 V c) (in1 V c) (in2 V c) (in3 V c) f4)
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [Howes]; · iexact Howes
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  iexists _; isplitr; swap; (· iexact H4); ipureintro; rfl

theorem body_obligation (c : Dev nD) : BodyObligation (dat V c) (defs₀ (F := F)) 𝒱₀ () Set.univ := fun t => by
  rw [bigSep_W1, bigSep_W1]
  exact body_at V c t

/-- The result's array after the launch. -/
def result (c : Dev nD) : Buf (Elt F) ((c : Thread nD τ).loc main_v75) := (dat V c).arrAt 4 (cfg1 (F := F)).N

end R1

/-! ## The launches as segments -/

variable (V' Vp : (c : Dev nD) → (b : Ref sig .tc) → Buf (Elt F) ((c : Thread nD τ).loc b))

/-- The proof data of both launches, entered at `V` and at `V'`. -/
def pdats : (p : Fin 2) → (c : Dev nD) → Dat τ (Elt F) Unit ℕ (UR nD τ) ℕ (Pipeline.pin (pcfgs (F := F)) adm p) c
  | ⟨0, _⟩ => fun c => R0.dat V c
  | ⟨1, _⟩ => fun c => R1.dat V' c

set_option backward.isDefEq.respectTransparency.types false in
/-- Launch 0 as a segment: from every unscoped buffer at `V c` to every one at `Vp c`, which differs from `V c` in the
    result's array only. -/
def reg0 (hVp_out : ∀ c, Vp c main_v35 = R0.result V c)
    (hVp_ne : ∀ c (b : Ref sig .tc), b ≠ main_v35 → Vp c b = V c b) :
    Pipeline.RegionSeg (pcfgs (F := F)) adm (pdats V V') () defs₀ 𝒱₀ L lv 0 where
  win := launch0.win.to₀
  block_pos := launch0.block_pos
  stage_whole := launch0.stage_whole
  K := PEmpty
  osem k := k.elim
  ho := Pipeline.OwnSemFacts.none _
  hbody c := (R0.body_obligation V c).loose
  hwaits := Pipeline.hwaits_of_owed_zero _ _ _ _ L lv 0 fun _ _ => rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR nD τ) (Lvl := ℕ) spec0 c (V c)
  hentry c := by
    rw [Pipeline.ownSems0_none]
    have hsplit := Pipeline.arrays_of_unscopedBufs (p := 0) (pcfgs (F := F)) adm (pdats V V') launch0.win launch0.arr_whole c
      ((pdats V V' 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V V' 0 c).Φ 0 = Pipeline.scopedRest spec0 c from rfl]
    iintro ⟨-, -, Hr⟩; iexact Hr
  hout c := by
    rw [Pipeline.ownSems0_none, show (pdats V V' 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR nD τ) (Lvl := ℕ) launch0.win launch0.arr_whole c
      (pdats V V') ((pdats V V' 0 c).share_full fun _ => rfl) (V c) (Vp c) ((pdats V V' 0 c).arrAt · (cfg0 (F := F)).N)
      (fun w => by
        fin_cases w
        · exact ((pdats V V' 0 c).arrAt_in 0 rfl _).trans (hVp_ne c main_v34 (by decide)).symm
        · exact (hVp_out c).symm)
      (fun b hb => hVp_ne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- Launch 1 as a segment: from every unscoped buffer at `V' c` to every one at `Vp c`, which differs from `V' c` in the
    result's array only. -/
def reg1 (hVp_out : ∀ c, Vp c main_v75 = R1.result V' c)
    (hVp_ne : ∀ c (b : Ref sig .tc), b ≠ main_v75 → Vp c b = V' c b) :
    Pipeline.RegionSeg (pcfgs (F := F)) adm (pdats V V') () defs₀ 𝒱₀ L lv 1 where
  win := launch1.win.to₀
  block_pos := launch1.block_pos
  stage_whole := launch1.stage_whole
  K := PEmpty
  osem k := k.elim
  ho := Pipeline.OwnSemFacts.none _
  hbody c := (R1.body_obligation V' c).loose
  hwaits := Pipeline.hwaits_of_owed_zero _ _ _ _ L lv 1 fun _ _ => rfl
  pre c := iprop(unscopedBufs c (V' c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR nD τ) (Lvl := ℕ) spec1 c (V' c)
  hentry c := by
    rw [Pipeline.ownSems0_none]
    have hsplit := Pipeline.arrays_of_unscopedBufs (p := 1) (pcfgs (F := F)) adm (pdats V V') launch1.win launch1.arr_whole c
      ((pdats V V' 1 c).share_full fun _ => rfl) (V' c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V V' 1 c).Φ 0 = Pipeline.scopedRest spec1 c from rfl]
    iintro ⟨-, -, Hr⟩; iexact Hr
  hout c := by
    rw [Pipeline.ownSems0_none, show (pdats V V' 1 c).Φ (Fin.last _) = Pipeline.scopedRest spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UR nD τ) (Lvl := ℕ) launch1.win launch1.arr_whole c
      (pdats V V') ((pdats V V' 1 c).share_full fun _ => rfl) (V' c) (Vp c) ((pdats V V' 1 c).arrAt · (cfg1 (F := F)).N)
      (fun w => by
        fin_cases w
        · exact ((pdats V V' 1 c).arrAt_in 0 rfl _).trans (hVp_ne c main_v51 (by decide)).symm
        · exact ((pdats V V' 1 c).arrAt_in 1 rfl _).trans (hVp_ne c main_v58 (by decide)).symm
        · exact ((pdats V V' 1 c).arrAt_in 2 rfl _).trans (hVp_ne c main_v67 (by decide)).symm
        · exact ((pdats V V' 1 c).arrAt_in 3 rfl _).trans (hVp_ne c main_v74 (by decide)).symm
        · exact (hVp_out c).symm)
      (fun b hb => hVp_ne c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Proof.KI

end
-- ==== Proof.KI.Run.lean ====
/-
  The whole program run: the host operations before the first launch, the two launches with the host operations between
  them, and the host operations after the second. Every final state holds the arguments as launched, every counter at
  zero, and every buffer of the host at the contents `final` spells.
-/
module

public import proofs.«01_k».proof.Proof.KI.Region

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR nD τ) ℕ

/-- The rounds' place in the machine's algebra. -/
def EP : Emb (UR nD τ) (MT nD τ sig Unit (Elt F) ℕ (UR nD τ) ℕ) :=
  (Emb.refl _).trans (uEmb (nD := nD) (sig := sig) (Ix := Unit) (Val := Elt F) (Name := ℕ) (U := UR nD τ) (Lvl := ℕ)).toEmb
instance EP_landsIn : (EP : Emb (UR nD τ) 𝕄).LandsIn (upEmb : UEmb _ 𝕄) := by unfold EP; infer_instance

variable (m : (ℓ : Loc nD τ sig) → Buf (Elt F) ℓ)

/-- The buffers' contents after the first launch. -/
def W4 (c : Dev nD) : Valuation τ sig (Elt F) := Function.update (V3 m c) main_v35 (R0.result (fun c b => V3 m c b) c)
/-- The buffers' contents at the second launch. -/
def W5 (c : Dev nD) : Valuation τ sig (Elt F) := StableHlo.after hostOps1 (W4 m c)
/-- The buffers' contents after the second launch. -/
def W6 (c : Dev nD) : Valuation τ sig (Elt F) := Function.update (W5 m c) main_v75 (R1.result (fun c b => W5 m c b) c)
/-- The buffers' contents at the end. -/
def final (c : Dev nD) : Valuation τ sig (Elt F) := StableHlo.after hostOps2 (W6 m c)

/-- What the two launches leave, as the program's items name it. -/
def outs : Outs (F := F) := fun j r c => if j = 4 then W4 m c r else W6 m c r

theorem V4_eq (c : Dev nD) : V4 m (outs m) c = W4 m c := by
  have h : outs m 4 main_v35 c = R0.result (fun c b => V3 m c b) c := by
    simp only [outs, W4, if_true, Function.update_self]
  unfold V4; rw [h]; rfl

theorem V5_eq (c : Dev nD) : V5 m (outs m) c = W5 m c := by unfold V5; rw [V4_eq]; rfl

theorem V6_eq (c : Dev nD) : V6 m (outs m) c = W6 m c := by
  have h : outs m 6 main_v75 c = R1.result (fun c b => W5 m c b) c := by
    simp only [outs, W6, show (6 : ℕ) ≠ 4 by decide, if_false, Function.update_self]
  unfold V6; rw [h, V5_eq]; rfl

theorem V7_eq (c : Dev nD) : V7 m (outs m) c = final m c := by unfold V7; rw [V6_eq]; rfl

/-- What a core holds beside its buffers between two items: nothing owed. -/
abbrev E (_ : Fin 3) (c : Dev nD) : sProp 𝕄 := iprop(∃ W, owes (c : Thread nD τ) (0 : CellTallies nD τ sig Unit) W)

theorem W4_out (c : Dev nD) : W4 m c main_v35 = R0.result (fun c b => V3 m c b) c := by unfold W4; rw [Function.update_self]
theorem W4_ne (c : Dev nD) (b : Ref sig .tc) (h : b ≠ main_v35) : W4 m c b = V3 m c b := by
  unfold W4; rw [Function.update_of_ne (StableHlo.devRef_ne_of_ne h)]
theorem W6_out (c : Dev nD) : W6 m c main_v75 = R1.result (fun c b => W5 m c b) c := by unfold W6; rw [Function.update_self]
theorem W6_ne (c : Dev nD) (b : Ref sig .tc) (h : b ≠ main_v75) : W6 m c b = W5 m c b := by
  unfold W6; rw [Function.update_of_ne (StableHlo.devRef_ne_of_ne h)]

/-- The launches' segments at the run's contents. -/
def seg0 := reg0 (F := F) (fun c b => V3 m c b) (fun c b => W5 m c b) (fun c b => W4 m c b) (W4_out m) (W4_ne m)
def seg1 := reg1 (F := F) (fun c b => V3 m c b) (fun c b => W5 m c b) (fun c b => W6 m c b) (W6_out m) (W6_ne m)

/-- Every buffer whole, in the two spellings. -/
theorem held_eq (c : Dev nD) (W : Valuation τ sig (Elt F)) :
    (unscopedBufs c (fun b => W b) : sProp 𝕄) = StableHlo.held (c : Thread nD τ) (Pipeline.ucRefs τ sig) W :=
  Pipeline.unscopedBufs_held c W

theorem enter0 (c : Dev nD) : iprop(StableHlo.held (c : Thread nD τ) (Pipeline.ucRefs τ sig) (V3 m c) ∗ E 0 c) ⊢ (seg0 m).pre c := by
  rw [show (seg0 m).pre c = iprop(unscopedBufs c (fun b => V3 m c b) ∗ E 0 c) from rfl, held_eq]
theorem leave0 (c : Dev nD) : (seg0 m).post c ⊢ iprop(StableHlo.held (c : Thread nD τ) (Pipeline.ucRefs τ sig) (V4 m (outs m) c) ∗ E 1 c) := by
  rw [show (seg0 m).post c = iprop(unscopedBufs c (fun b => W4 m c b) ∗ E 1 c) from rfl, held_eq, V4_eq]
theorem enter1 (c : Dev nD) : iprop(StableHlo.held (c : Thread nD τ) (Pipeline.ucRefs τ sig) (V5 m (outs m) c) ∗ E 1 c) ⊢ (seg1 m).pre c := by
  rw [show (seg1 m).pre c = iprop(unscopedBufs c (fun b => W5 m c b) ∗ E 1 c) from rfl, held_eq, V5_eq]
theorem leave1 (c : Dev nD) : (seg1 m).post c ⊢ iprop(StableHlo.held (c : Thread nD τ) (Pipeline.ucRefs τ sig) (V6 m (outs m) c) ∗ E 2 c) := by
  rw [show (seg1 m).post c = iprop(unscopedBufs c (fun b => W6 m c b) ∗ E 2 c) from rfl, held_eq, V6_eq]

theorem start_rest (ρ : Dev nD → PrngReg) :
    iprop((bigSep Finset.univ fun c : Dev nD => iprop(unscopedSems0 c ∗ owes (c : Thread nD τ) (0 : CellTallies nD τ sig Unit) ∅
        ∗ Pipeline.launchCred (fun _ => 0) c ∗ prngReg c (ρ c) ∗ BI.emp)) ∗ levAts L lv)
      ⊢ (|={Set.univ}=> bigSep Finset.univ (E 0) : sProp 𝕄) := by
  have h : (bigSep Finset.univ fun c : Dev nD => iprop(unscopedSems0 c ∗ owes (c : Thread nD τ) (0 : CellTallies nD τ sig Unit) ∅
        ∗ Pipeline.launchCred (fun _ => 0) c ∗ prngReg c (ρ c) ∗ BI.emp)) ⊢ (bigSep Finset.univ (E 0) : sProp 𝕄) :=
    bigSep_mono fun c _ => by
      show iprop(unscopedSems0 c ∗ owes (c : Thread nD τ) (0 : CellTallies nD τ sig Unit) ∅
        ∗ Pipeline.launchCred (fun _ => 0) c ∗ prngReg c (ρ c) ∗ BI.emp) ⊢ (iprop(∃ W, owes (c : Thread nD τ) (0 : CellTallies nD τ sig Unit) W) : sProp 𝕄)
      iintro ⟨-, HO, -⟩
      iexists ∅
      iexact HO
  iintro ⟨H, -⟩
  imodintro
  iapply h
  iexact H

-- the launch theorem's implicit arguments are found by unifying its conclusion with this one
set_option backward.isDefEq.respectTransparency.types false in
/-- The run: it ends, every counter at zero, each core's buffers at `final`. -/
theorem run_main (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v78) = final m c main_v78)
      ∧ r.2.sem = fun _ => 0) := by
  refine Pipeline.θ_run_regions_kit_dev_sems (pcfgs (F := F)) adm (pdats (fun c b => V3 m c b) (fun c b => W5 m c b)) () cellOf_inj EP defs₀ 𝒱₀ L lv m ρ main
    (segs m (outs m) 𝒱₀ L lv E () (pdats (fun c b => V3 m c b) (fun c b => W5 m c b)) (seg0 m) (seg1 m))
    (fun c Q => by
      rewrite [main_chain c, Seg.run_eq_chain,
        show (segs m (outs m) 𝒱₀ L lv E () (pdats (fun c b => V3 m c b) (fun c b => W5 m c b)) (seg0 m) (seg1 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun _ _ => rfl)
    (fun _ => BI.emp) (initOf (Pipeline.cells (cfgs (F := F)) cellOf_inj) (Pipeline.launchToks (cfgs (F := F)) cellOf_inj)) ?hu
    (T₀ := fun c => iprop(StableHlo.held (c : Thread nD τ) (Pipeline.ucRefs τ sig) (V0 m c) ∗ E 0 c))
    (Tₙ := fun c => StableHlo.held (c : Thread nD τ) (Pipeline.ucRefs τ sig) (V7 m (outs m) c))
    (hch := fun c => ⟨.rfl, .rfl, .rfl, enter0 m c, leave0 m c, enter1 m c, leave1 m c, sep_mono .rfl .rfl⟩)
    (hinit := ?hinit) (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_v78) = final m c main_v78)
    (hfin := fun c s' => ?hfin) (hQ := fun _ h hz => ⟨h, funext fun g => hz g (.inr (regions_no_unscoped g.2))⟩)
  case hu =>
    have h0 : (BI.emp : sProp 𝕄) ⊢ bigSep Finset.univ fun _ : Dev nD => (BI.emp : sProp 𝕄) := by
      rw [BI.bigSep_emp_const]
    refine BIBase.Entails.trans (Q := iprop(BI.own (EP (initOf (Pipeline.cells (cfgs (F := F)) cellOf_inj) (Pipeline.launchToks (cfgs (F := F)) cellOf_inj))) ∗ bigSep Finset.univ fun _ : Dev nD => (BI.emp : sProp 𝕄))) ?_ ?_
    · refine BIBase.Entails.trans (Q := iprop(BI.own (EP (initOf (Pipeline.cells (cfgs (F := F)) cellOf_inj) (Pipeline.launchToks (cfgs (F := F)) cellOf_inj))) ∗ (BI.emp : sProp 𝕄))) ?_ (sep_mono .rfl h0)
      exact Laws.sep_emp.2
    · iintro H; imodintro; iexact H
  case hinit =>
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅
              ∗ Pipeline.launchCred (fun _ => 0) c ∗ prngReg c (ρ c) ∗ BI.emp)) : sProp 𝕄) := by
      rw [← bigSep_sep']
      exact bigSep_mono fun c _ => by rw [← held_eq c (V0 m c)]; exact BI.Entails.refl _
    iintro ⟨H, Hla⟩
    ihave H' := hsplit $$ H
    icases H' with ⟨Hh, Hr⟩
    imod (start_rest ρ) $$ [Hr Hla] with HE
    · isplitl [Hr]; · iexact Hr
      iexact Hla
    imodintro
    rw [bigSep_sep']
    isplitl [Hh]; · iexact Hh
    iexact HE
  case hfin =>
    unfold StableHlo.held
    iintro ⟨Hh, HSI⟩
    ihave Hr := (pointsTo_read_all (Pipeline.ucRefs τ sig) (fun b => ((c : Thread nD τ).1, b)) (V7 m (outs m) c) s') $$ [Hh HSI]
    · isplitl [Hh] <;> iassumption
    icases Hr with ⟨%h, HSI⟩
    imodintro
    isplitr
    · ipureintro
      rw [← V7_eq]
      exact ⟨(h (Proc.devRef .tc main_arg0) (Finset.mem_filter.mpr ⟨StableHlo.devRef_mem_tcRefs main_arg0, by decide⟩)).trans (V7_main_arg0 m (outs m) c),
        (h (Proc.devRef .tc main_arg1) (Finset.mem_filter.mpr ⟨StableHlo.devRef_mem_tcRefs main_arg1, by decide⟩)).trans (V7_main_arg1 m (outs m) c),
        (h (Proc.devRef .tc main_arg2) (Finset.mem_filter.mpr ⟨StableHlo.devRef_mem_tcRefs main_arg2, by decide⟩)).trans (V7_main_arg2 m (outs m) c),
        (h (Proc.devRef .tc main_arg3) (Finset.mem_filter.mpr ⟨StableHlo.devRef_mem_tcRefs main_arg3, by decide⟩)).trans (V7_main_arg3 m (outs m) c),
        (h (Proc.devRef .tc main_arg4) (Finset.mem_filter.mpr ⟨StableHlo.devRef_mem_tcRefs main_arg4, by decide⟩)).trans (V7_main_arg4 m (outs m) c),
        h (Proc.devRef .tc main_v78) (Finset.mem_filter.mpr ⟨StableHlo.devRef_mem_tcRefs main_v78, by decide⟩)⟩
    · iexact HSI

end Cert.Proof.KI

end
-- ==== Proof.RI.Run.lean ====
/-
  The reference run: its host operations, the counted loop of 5000 trips, and the operations after it. Every final state
  holds the arguments as launched and the result at `final`.
-/
module

public import proofs.«01_k».proof.Proof.Gen.ReferenceIdeal.Run
public import Idealize.ShloMosaic.Lib.Quiescent

@[expose] public section

noncomputable section

namespace Cert.Proof.RI

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

variable (m : (ℓ : Loc nD τ sig) → Buf (Elt F) ℓ)

/-- The buffers' contents at the end. -/
def final (c : Dev nD) : Valuation τ sig (Elt F) := finalContents condOps preI bodyI postI 5000 m c

/-- A buffer that no operation before the loop writes is at the loop's entry as launched. -/
theorem entry_keep (c : Dev nD) (r : Ref sig .tc)
    (h : ∀ W ∈ [hostOps0_W, hostOps0_1_W, hostOps0_2_W, hostOps0_3_W, hostOps0_4_W, hostOps0_5_W, hostOps0_6_W, hostOps0_7_W,
      hostOps0_8_W, hostOps0_9_W, hostOps0_10_W], r ∉ W) :
    entryContents preI m c r = m ((c : Thread nD τ).loc r) := by
  have hk : ∀ (W : List (Ref sig .tc)), W ∈ [hostOps0_W, hostOps0_1_W, hostOps0_2_W, hostOps0_3_W, hostOps0_4_W, hostOps0_5_W,
      hostOps0_6_W, hostOps0_7_W, hostOps0_8_W, hostOps0_9_W, hostOps0_10_W] → r ∉ W := h
  simp only [entryContents, preI, afterL_cons, afterL_nil]
  rw [after_of_writes_sub hostOps0_10 _ hostOps0_10_writes (hk _ (by simp)),
    after_of_writes_sub hostOps0_9 _ hostOps0_9_writes (hk _ (by simp)),
    after_of_writes_sub hostOps0_8 _ hostOps0_8_writes (hk _ (by simp)),
    after_of_writes_sub hostOps0_7 _ hostOps0_7_writes (hk _ (by simp)),
    after_of_writes_sub hostOps0_6 _ hostOps0_6_writes (hk _ (by simp)),
    after_of_writes_sub hostOps0_5 _ hostOps0_5_writes (hk _ (by simp)),
    after_of_writes_sub hostOps0_4 _ hostOps0_4_writes (hk _ (by simp)),
    after_of_writes_sub hostOps0_3 _ hostOps0_3_writes (hk _ (by simp)),
    after_of_writes_sub hostOps0_2 _ hostOps0_2_writes (hk _ (by simp)),
    after_of_writes_sub hostOps0_1 _ hostOps0_1_writes (hk _ (by simp)),
    after_of_writes_sub hostOps0 _ hostOps0_writes (hk _ (by simp))]

/-- A buffer that the loop does not write is after `k` trips as at the entry. -/
theorem trips_keep (c : Dev nD) (r : Ref sig .tc) (h : ∀ W ∈ [condOps_W, while0Ops0_W, while0Ops0_1_W, while0Ops0_2_W], r ∉ W) :
    ∀ k, atK m k c r = entryContents preI m c r
  | 0 => rfl
  | k + 1 => by
    rw [← trips_keep c r h k]
    show afterL bodyI (after condOps (atK m k c)) r = _
    simp only [bodyI, afterL_cons, afterL_nil]
    rw [after_of_writes_sub while0Ops0_2 _ while0Ops0_2_writes (h _ (by simp)),
      after_of_writes_sub while0Ops0_1 _ while0Ops0_1_writes (h _ (by simp)),
      after_of_writes_sub while0Ops0 _ while0Ops0_writes (h _ (by simp)),
      after_of_writes_sub condOps _ condOps_writes (h _ (by simp))]

/-- The contents after the loop. -/
def afterLoop (c : Dev nD) : Valuation τ sig (Elt F) := after condOps (atK m 5000 c)

theorem final_eq (c : Dev nD) : final m c = after hostOps0_11 (afterLoop m c) := rfl

theorem afterLoop_keep (c : Dev nD) (r : Ref sig .tc) (h : ∀ W ∈ [condOps_W, while0Ops0_W, while0Ops0_1_W, while0Ops0_2_W], r ∉ W) :
    afterLoop m c r = entryContents preI m c r := by
  unfold afterLoop
  rw [after_of_writes_sub condOps _ condOps_writes (h _ (by simp)), trips_keep m c r h]

/-- The buffer each operation after the loop writes. -/
abbrev tail_W : List (Ref sig .tc) := [
  main_c_13, main_v79, main_c_14, main_v80, main_v81, main_c_15, main_v82, main_v83, main_v84, main_v85, main_v86, main_v87,
  main_v88, main_v89, main_v90, main_v91, main_v92, main_v93, main_v94, main_v95, main_v96, main_v97, main_v98, main_v99,
  main_v100, main_v101, main_v102, main_v103, main_v104, main_v105, main_v106, main_v107, main_v108, main_v109, main_v110,
  main_v111, main_v112, main_v113, main_v114, main_v115, main_v116, main_v117, main_v118, main_v119, main_v120, main_v121,
  main_v122, main_v123, main_v124, main_v125, main_v126, main_v127, main_v128, main_v129, main_v130, main_v131, main_v132,
  main_v133, main_v134, main_v135, main_v136, main_v137, main_v138, main_v139, main_v140, main_v141, main_v142, main_v143,
  main_v144, main_v145, main_v146, main_v147, main_v148, main_v149, main_v150, main_v151, main_v152, main_v153, main_v154,
  main_v155, main_v156, main_v157, main_v158, main_v159, main_v160, main_v161, main_v162, main_v163, main_v164, main_v165,
  main_v166, main_v167, main_v168, main_v169, main_v170, main_v171, main_v172, main_v173, main_v174, main_v175, main_v176,
  main_v177, main_v178]
set_option maxRecDepth 100000 in
theorem tail_writes : (hostOps0_11 : List (HloOp τ sig (Elt F))).Forall fun op => op.writes ⊆ (tail_W.map (Proc.devRef (τ := τ) .tc)).toFinset :=
  forall_writes_sub_of_map rfl

theorem final_keep (c : Dev nD) (r : Ref sig .tc) (h : r ∉ tail_W) : final m c r = afterLoop m c r := by
  rw [final_eq]; exact after_of_writes_sub hostOps0_11 _ tail_writes h

/-- A buffer that no operation writes is at the end as launched. -/
theorem keep (c : Dev nD) (r : Ref sig .tc) (h0 : r ∉ tail_W) (h1 : ∀ W ∈ [condOps_W, while0Ops0_W, while0Ops0_1_W, while0Ops0_2_W], r ∉ W)
    (h2 : ∀ W ∈ [hostOps0_W, hostOps0_1_W, hostOps0_2_W, hostOps0_3_W, hostOps0_4_W, hostOps0_5_W, hostOps0_6_W, hostOps0_7_W,
      hostOps0_8_W, hostOps0_9_W, hostOps0_10_W], r ∉ W) : final m c r = m ((c : Thread nD τ).loc r) :=
  (final_keep m c r h0).trans ((afterLoop_keep m c r h1).trans (entry_keep m c r h2))

/-- The run: it ends, every counter at zero, the arguments as launched, the result at `final`. -/
theorem run_main (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v178) = final m c main_v178)
      ∧ r.2.sem = fun _ => 0) :=
  (θ_run _ _ _).mono (fun r h => ⟨fun c =>
    ⟨(h c main_arg0 rfl).trans (keep m c main_arg0 (by decide) (by decide) (by decide)),
     (h c main_arg1 rfl).trans (keep m c main_arg1 (by decide) (by decide) (by decide)),
     (h c main_arg2 rfl).trans (keep m c main_arg2 (by decide) (by decide) (by decide)),
     (h c main_arg3 rfl).trans (keep m c main_arg3 (by decide) (by decide) (by decide)),
     (h c main_arg4 rfl).trans (keep m c main_arg4 (by decide) (by decide) (by decide)),
     h c main_v178 rfl⟩, sem_eq_zero_of_no_sems (by decide) r.2⟩) (run_fold m ρ)

end Cert.Proof.RI

end
-- ==== Proof.Val.Pre.lean ====
/-
  What the precondition says of the arguments: no side of a box at plus infinity, no entry of the map negative.
-/
module

public import proofs.«01_k».proof.Pre_bounded_sides_and_nonnegative_trans
public import Idealize.ShloMosaic.Lib.Pointwise
public import Idealize.ShloMosaic.Lib.IdealHost
public import Idealize.ShloMosaic.Lib.Affine
public import Idealize.ShloMosaic.Lib.Decide

@[expose] public section

noncomputable section

namespace Cert.Proof.Val.Pre

open Cert.Pre_bounded_sides_and_nonnegative_trans
open Idealize.ShloMosaic Idealize.ShloMosaic.Pointwise

instance facts : Facts where
  slices_S1x5000x6_S1x5000x4_0_0_2 := by decide +kernel
  bcast_S_S1x5000x4 := by decide +kernel
  shapeCasts_S1x5000x4_S20000 := by decide +kernel
  bcast_S_S1x1x2x3 := by decide +kernel
  shapeCasts_S1x1x2x3_S6 := by decide +kernel
  concatenates_S20000_S6_S20006_d0 := by decide +kernel

theorem ofBool_eq_one_iff (b : Bool) : BitVec.ofBool b = 1#1 ↔ b = true := by revert b; decide

theorem inf_eq : Ideal.ofBits .f32 0x7F800000#32 = (⊤ : EReal) := by
  simp [Ideal.ofBits, Ideal.ieee]

variable (x0 : S1x5000x2.Idx → EReal) (x1 x2 : S1x5000x6.Idx → EReal) (x3 : S1x1x2x3.Idx → EReal) (x4 : S1x4.Idx → EReal)
  (h : fn (F := Ideal) x0 x1 x2 x3 x4 = fun _ => 1#1)

include h in
theorem sides_bounded (n : Fin 5000) (a : Fin 4) : x1 (ix3 0 n ⟨2 + a.val, by omega⟩) < ⊤ := by
  have e := congrFun h (ix1 ⟨4 * n.val + a.val, by omega⟩)
  unfold fn at e
  pointwise at e
  rw [dif_pos (by omega), ofBool_eq_one_iff, decide_eq_true_iff, inf_eq] at e
  exact e

include h in
theorem map_nonneg (i : Fin 2) (j : Fin 3) : 0 ≤ x3 (ix4 0 0 i j) := by
  have e := congrFun h (ix1 ⟨20000 + 3 * i.val + j.val, by omega⟩)
  unfold fn at e
  pointwise at e
  rw [dif_neg (by omega), ofBool_eq_one_iff, decide_eq_true_iff] at e
  have h1 : (⟨(20000 + 3 * i.val + j.val - 20000) / 3, by omega⟩ : Fin 2) = i :=
    Fin.ext (show (20000 + 3 * i.val + j.val - 20000) / 3 = i.val by omega)
  have h2 : (⟨(20000 + 3 * i.val + j.val - 20000) % 3, by omega⟩ : Fin 3) = j :=
    Fin.ext (show (20000 + 3 * i.val + j.val - 20000) % 3 = j.val by omega)
  rw [h1, h2] at e
  exact e

end Cert.Proof.Val.Pre
-- ==== Proof.Val.Greedy.lean ====
/-
  Greedy suppression, on its own: which of a sequence of boxes are kept when each kept box suppresses the later ones it
  hits; the test of one pair of boxes, as the kernel and the reference write it; and one sweep of the kernel's settling
  loop, which puts one more box right each time and whose only fixed point is the greedy answer.
-/
module

public import Idealize.ShloMosaic.Lib.IdealHost

@[expose] public section

noncomputable section

namespace Cert.Proof.Val

open Idealize.ShloMosaic

/-! ## Truth values as numbers -/

open Classical in
/-- One or zero. -/
def ind (P : Prop) : EReal := if P then 1 else 0

theorem ind_true {P : Prop} (h : P) : ind P = 1 := if_pos h
theorem ind_false {P : Prop} (h : ¬ P) : ind P = 0 := if_neg h
theorem ind_congr {P Q : Prop} (h : P ↔ Q) : ind P = ind Q := by rw [propext h]

theorem half_eq : Ideal.ofBits .f32 0x3F000000#32 = ((1 / 2 : ℝ) : EReal) := by
  simp [Ideal.ofBits, Ideal.ieee, -EReal.coe_mul]; norm_num

theorem coe_max (x y : ℝ) : ((max x y : ℝ) : EReal) = max (x : EReal) y := by
  rcases le_total x y with h | h
  · rw [max_eq_right h, max_eq_right (EReal.coe_le_coe_iff.2 h)]
  · rw [max_eq_left h, max_eq_left (EReal.coe_le_coe_iff.2 h)]

theorem coe_min (x y : ℝ) : ((min x y : ℝ) : EReal) = min (x : EReal) y := by
  rcases le_total x y with h | h
  · rw [min_eq_left h, min_eq_left (EReal.coe_le_coe_iff.2 h)]
  · rw [min_eq_right h, min_eq_right (EReal.coe_le_coe_iff.2 h)]

theorem bot_eq : Ideal.ofBits .f32 0xFF800000#32 = (⊥ : EReal) := by simp [Ideal.ofBits, Ideal.ieee]

/-- The number the programs add to a union of areas: the word nearest to a billionth. -/
abbrev eps : EReal := Ideal.ofBits .f32 0x3089705F#32

theorem eps_pos : ∃ e : ℝ, 0 < e ∧ eps = (e : EReal) := by
  refine ⟨9007199 * (2 ^ 53)⁻¹, by positivity, ?_⟩
  simp [eps, Ideal.ofBits, Ideal.ieee, -EReal.coe_mul]

theorem half_lt_ind (P : Prop) : ((1 / 2 : ℝ) : EReal) < ind P ↔ P := by
  by_cases h : P
  · rw [ind_true h]; simp only [h, iff_true]; rw [← EReal.coe_one, EReal.coe_lt_coe_iff]; norm_num
  · rw [ind_false h]; simp only [h, iff_false]; rw [← EReal.coe_zero, EReal.coe_lt_coe_iff]; norm_num

theorem ind_mul (P Q : Prop) : ind P * ind Q = ind (P ∧ Q) := by
  by_cases h : P <;> by_cases h' : Q <;> simp [ind, h, h']

theorem one_sub_ind (P : Prop) : 1 - ind P = ind (¬ P) := by
  by_cases h : P <;> simp [ind, h]
  rw [← EReal.coe_one, ← EReal.coe_sub]; norm_num

theorem max_ind (P Q : Prop) : max (ind P) (ind Q) = ind (P ∨ Q) := by
  by_cases h : P <;> by_cases h' : Q <;> simp [ind, h, h']

theorem abs_ind_sub (P Q : Prop) : max (ind P - ind Q) (-(ind P - ind Q)) = ind (¬ (P ↔ Q)) := by
  have h1 : (1 : EReal) - 1 = 0 := by rw [← EReal.coe_one, ← EReal.coe_sub]; norm_num
  have h2 : (-1 : EReal) ≤ 1 := by rw [← EReal.coe_one, ← EReal.coe_neg, EReal.coe_le_coe_iff]; norm_num
  by_cases h : P <;> by_cases h' : Q <;> simp [ind, h, h', h1, h2]

theorem fold_max_ind {n : ℕ} (f : Fin (n + 1) → Prop) :
    Finset.univ.fold max (⊥ : EReal) (fun x => ind (f x)) = ind (∃ x, f x) := by
  have key : ∀ s : Finset (Fin (n + 1)), s.fold max (⊥ : EReal) (fun x => ind (f x)) = s.sup (fun x => ind (f x)) := fun s => rfl
  rw [key]
  by_cases h : ∃ x, f x
  · rw [ind_true h]
    obtain ⟨x, hx⟩ := h
    refine le_antisymm (Finset.sup_le fun y _ => ?_) ?_
    · by_cases hy : f y
      · rw [ind_true hy]
      · rw [ind_false hy]; exact zero_le_one
    · rw [← ind_true hx]; exact Finset.le_sup (f := fun x => ind (f x)) (Finset.mem_univ x)
  · rw [ind_false h]
    have h' : ∀ x, ¬ f x := fun x hx => h ⟨x, hx⟩
    refine le_antisymm (Finset.sup_le fun y _ => by rw [ind_false (h' y)]) ?_
    have := Finset.le_sup (f := fun x => ind (f x)) (Finset.mem_univ (0 : Fin (n + 1)))
    rwa [ind_false (h' 0)] at this

theorem sum_mul_eq {n : ℕ} (f : Fin n → EReal) (l : Fin n) : (∑ x, f x * ind (x = l)) = f l := by
  rw [Finset.sum_eq_single l]
  · rw [ind_true rfl, mul_one]
  · intro b _ hb; rw [ind_false hb, mul_zero]
  · intro h; exact absurd (Finset.mem_univ l) h

/-! ## The test of a pair -/

/-- A box: its two corners `x1 y1 x2 y2`. -/
abbrev Box : Type := Fin 4 → EReal

def area (p : Box) : EReal := max (p 2 - p 0) 0 * max (p 3 - p 1) 0

def overlap (p q : Box) : EReal :=
  max (min (p 2) (q 2) - max (p 0) (q 0)) 0 * max (min (p 3) (q 3) - max (p 1) (q 1)) 0

/-- The union's area with the little added. -/
def union (p q : Box) : EReal := area p + area q - overlap p q + eps

/-- The kernel's test. -/
def hit (p q : Box) : Prop := Ideal.ofBits .f32 0x3F000000#32 * union p q < overlap p q

theorem overlap_comm (p q : Box) : overlap p q = overlap q p := by
  unfold overlap; rw [min_comm (p 2), max_comm (p 0), min_comm (p 3), max_comm (p 1)]

theorem hit_comm (p q : Box) : hit p q ↔ hit q p := by
  unfold hit union; rw [overlap_comm p q, add_comm (area p)]

/-- A box without infinite width or height, though its place may be infinite. -/
def Bounded (p : Box) : Prop := ((p 2 = ⊤ → p 0 = ⊤) ∧ (p 0 = ⊥ → p 2 = ⊥)) ∧ ((p 3 = ⊤ → p 1 = ⊤) ∧ (p 1 = ⊥ → p 3 = ⊥))

theorem gap_real (a b : EReal) (h : (b = ⊤ → a = ⊤) ∧ (a = ⊥ → b = ⊥)) : ∃ r : ℝ, 0 ≤ r ∧ max (b - a) 0 = r := by
  obtain ⟨h1, h2⟩ := h
  induction a with
  | bot => rw [h2 rfl]; exact ⟨0, le_rfl, by simp⟩
  | top => exact ⟨0, le_rfl, by simp⟩
  | coe a =>
    induction b with
    | bot => exact ⟨0, le_rfl, by simp⟩
    | top => exact absurd (h1 rfl) (EReal.coe_ne_top a)
    | coe b => exact ⟨max (b - a) 0, le_max_right _ _, by rw [coe_max, EReal.coe_sub, EReal.coe_zero]⟩

theorem both_gap (a b a' b' : EReal) (h : (b = ⊤ → a = ⊤) ∧ (a = ⊥ → b = ⊥)) (h' : (b' = ⊤ → a' = ⊤) ∧ (a' = ⊥ → b' = ⊥)) :
    (min b b' = ⊤ → max a a' = ⊤) ∧ (max a a' = ⊥ → min b b' = ⊥) := by
  refine ⟨fun e => ?_, fun e => ?_⟩
  · rw [h.1 (top_le_iff.mp (e ▸ min_le_left b b')), max_eq_left le_top]
  · rw [h.2 (le_bot_iff.mp (e ▸ le_max_left a a')), min_eq_left bot_le]

/-- For bounded boxes the reference's test, which divides, is the kernel's. -/
theorem hit_div (p q : Box) (hp : Bounded p) (hq : Bounded q) :
    Ideal.ofBits .f32 0x3F000000#32 < Ideal.div (overlap p q) (union p q) ↔ hit p q := by
  obtain ⟨e, he, hee⟩ := eps_pos
  obtain ⟨w, hw, ew⟩ := gap_real _ _ hp.1
  obtain ⟨h, hh, eh⟩ := gap_real _ _ hp.2
  obtain ⟨w', hw', ew'⟩ := gap_real _ _ hq.1
  obtain ⟨h', hh', eh'⟩ := gap_real _ _ hq.2
  obtain ⟨u, hu, eu⟩ := gap_real _ _ (both_gap _ _ _ _ hp.1 hq.1)
  obtain ⟨v, hv, ev⟩ := gap_real _ _ (both_gap _ _ _ _ hp.2 hq.2)
  have huw : u ≤ w := by
    rw [← EReal.coe_le_coe_iff, ← eu, ← ew]
    exact max_le_max (EReal.sub_le_sub (min_le_left _ _) (le_max_left _ _)) le_rfl
  have hvh : v ≤ h := by
    rw [← EReal.coe_le_coe_iff, ← ev, ← eh]
    exact max_le_max (EReal.sub_le_sub (min_le_left _ _) (le_max_left _ _)) le_rfl
  have eI : overlap p q = ((u * v : ℝ) : EReal) := by rw [overlap, eu, ev, EReal.coe_mul]
  have eU : union p q = ((w * h + w' * h' - u * v + e : ℝ) : EReal) := by
    rw [union, eI, area, area, ew, eh, ew', eh', hee]
    simp only [EReal.coe_add, EReal.coe_sub, EReal.coe_mul]
  have hU : 0 < w * h + w' * h' - u * v + e := by
    have := mul_le_mul huw hvh hv hw
    have := mul_nonneg hw' hh'
    linarith
  unfold hit
  rw [eU, eI, half_eq, Ideal.div, if_neg (by rw [← EReal.coe_zero, EReal.coe_eq_coe_iff]; exact hU.ne'),
    ← EReal.coe_inv, ← EReal.coe_mul, ← EReal.coe_mul, EReal.coe_lt_coe_iff, EReal.coe_lt_coe_iff, ← div_eq_mul_inv, lt_div_iff₀ hU]

/-! ## The greedy answer -/

/-- Box `n` is kept: no kept box before it hits it. -/
def kept (H : ℕ → ℕ → Prop) (n : ℕ) : Prop := ∀ j : Fin n, kept H j.val → ¬ H j.val n
termination_by n
decreasing_by exact j.isLt

theorem kept_iff (H : ℕ → ℕ → Prop) (n : ℕ) : kept H n ↔ ∀ j < n, kept H j → ¬ H j n := by
  rw [kept]
  exact ⟨fun h j hj => h ⟨j, hj⟩, fun h j => h j.val j.isLt⟩

/-- Only the boxes before `N` matter to the first `N`. -/
theorem kept_congr {H H' : ℕ → ℕ → Prop} (N : ℕ) (h : ∀ i < N, ∀ j < N, H i j ↔ H' i j) : ∀ n < N, (kept H n ↔ kept H' n) := by
  intro n
  induction n using Nat.strong_induction_on with
  | _ n ih =>
    intro hn
    rw [kept_iff, kept_iff]
    exact forall₂_congr fun j hj => by rw [ih j hj (hj.trans hn), h j (hj.trans hn) n hn]

/-! ## One sweep inside a block -/

/-- Box `i` of the block that starts at `b` is not hit by a kept box of an earlier block. -/
def candidate (H : ℕ → ℕ → Prop) (b i : ℕ) : Prop := ∀ j < b, kept H j → ¬ H j (b + i)

/-- One sweep over the block, from the row `p`. -/
def sweep {n : ℕ} (H : ℕ → ℕ → Prop) (b : ℕ) (p : Fin n → Prop) (i : Fin n) : Prop :=
  candidate H b i ∧ ¬ ∃ j : Fin n, (H (b + j) (b + i) ∧ j.val < i.val) ∧ p j

theorem kept_block (H : ℕ → ℕ → Prop) (b i : ℕ) :
    kept H (b + i) ↔ candidate H b i ∧ ∀ j < i, kept H (b + j) → ¬ H (b + j) (b + i) := by
  rw [kept_iff]
  constructor
  · intro h
    exact ⟨fun j hj => h j (by omega), fun j hj => h (b + j) (by omega)⟩
  · rintro ⟨h1, h2⟩ j hj
    by_cases hb : j < b
    · exact h1 j hb
    · obtain ⟨k, rfl⟩ := Nat.exists_eq_add_of_le (not_lt.1 hb)
      exact h2 k (by omega)

/-- A sweep over a row whose first `t` entries are right makes one more right. -/
theorem sweep_right {n : ℕ} (H : ℕ → ℕ → Prop) (b : ℕ) (p : Fin n → Prop) (t : ℕ)
    (h : ∀ i : Fin n, i.val < t → (p i ↔ kept H (b + i))) (i : Fin n) (hi : i.val < t + 1) :
    sweep H b p i ↔ kept H (b + i) := by
  rw [kept_block, sweep]
  refine and_congr_right fun _ => ?_
  constructor
  · intro hn j hj hk hH
    exact hn ⟨⟨j, hj.trans i.isLt⟩, ⟨hH, hj⟩, (h ⟨j, hj.trans i.isLt⟩ (show j < t by omega)).2 hk⟩
  · rintro hn ⟨j, ⟨hH, hj⟩, hp⟩
    exact hn j hj ((h j (by omega)).1 hp) hH

/-- A row that a sweep leaves as it is, is right. -/
theorem sweep_fixed {n : ℕ} (H : ℕ → ℕ → Prop) (b : ℕ) (p : Fin n → Prop) (h : ∀ i, sweep H b p i ↔ p i) (i : Fin n) :
    p i ↔ kept H (b + i) := by
  have key : ∀ t, ∀ i : Fin n, i.val < t → (p i ↔ kept H (b + i)) := by
    intro t
    induction t with
    | zero => intro i hi; omega
    | succ t ih => intro i hi; rw [← h i]; exact sweep_right H b p t ih i hi
  exact key (i.val + 1) i (by omega)

end Cert.Proof.Val

end
-- ==== Proof.Val.Nms.lean ====
/-
  What the suppression kernel's pieces are at an index, over the extended reals: each mask and row of zeros and ones is
  the truth value it stands for, and the row settled at each block is the greedy answer.
-/
module

public import proofs.«01_k».proof.Proof.Val.Greedy
public import proofs.«01_k».proof.Proof.KI.Region
public import Idealize.ShloMosaic.Lib.Pointwise

@[expose] public section

noncomputable section

namespace Cert.Proof.Val

open Cert.KernelIdeal Cert.KernelIdeal.Gen Cert.Proof.KI
open Idealize.ShloMosaic Idealize.ShloMosaic.Pointwise

/-! ## Words of one bit -/

theorem ofBool_eq_one (b : Bool) : BitVec.ofBool b = 1#1 ↔ b = true := by cases b <;> decide

theorem andi_eq_one (a b : BitVec 1) : IntOp.andi a b = 1#1 ↔ a = 1#1 ∧ b = 1#1 := by
  revert a b; decide

theorem select_ind (c : BitVec 1) : Scalar.select c (1 : EReal) 0 = ind (c = 1#1) := by
  by_cases h : c = 1#1
  · rw [ind_true h, h]; rfl
  · rw [ind_false h]; exact if_neg h

theorem cmpi_eq_one (a b : ℕ) (ha : a < 1024) (hb : b < 1024) :
    IntOp.cmpi CmpIPredicate.eq (BitVec.ofNat 32 a) (BitVec.ofNat 32 b) = 1#1 ↔ a = b := by
  show BitVec.ofBool (BitVec.ofNat 32 a == BitVec.ofNat 32 b) = 1#1 ↔ _
  rw [ofBool_eq_one, beq_iff_eq]
  constructor
  · intro h; have := congrArg BitVec.toNat h; simp only [BitVec.toNat_ofNat] at this; omega
  · rintro rfl; rfl

theorem cmpi_slt_one (a b : ℕ) (ha : a < 8192) (hb : b < 8192) :
    IntOp.cmpi CmpIPredicate.slt (BitVec.ofNat 32 a) (BitVec.ofNat 32 b) = 1#1 ↔ a < b := by
  show BitVec.ofBool (BitVec.slt (BitVec.ofNat 32 a) (BitVec.ofNat 32 b)) = 1#1 ↔ _
  rw [ofBool_eq_one, BitVec.slt_iff_toInt_lt, BitVec.toInt_ofNat', BitVec.toInt_ofNat']
  rw [Int.bmod_eq_of_le (by omega) (by omega), Int.bmod_eq_of_le (by omega) (by omega)]
  omega

/-! ## Boxes and the one-hot matrix -/

/-- Box `l` of a block. -/
def boxOf (b : Vec Ideal S1x8x1024 .f32) (l : Fin 1024) : Box := fun a => b (ix3 0 (a.castLE (by decide)) l)

theorem eye_at (r l : Fin 1024) : k0_pay14 (F := Ideal) (ix2 r l) = ind (r = l) := by
  pointwise [k0_pay14]
  show (((BitVec.setWidth 32 (IntOp.cmpi CmpIPredicate.eq (BitVec.ofNat 32 r.val) (BitVec.ofNat 32 l.val))).toInt : ℝ) : EReal) = _
  by_cases h : r = l
  · rw [ind_true h, (cmpi_eq_one _ _ r.isLt l.isLt).2 (congrArg _ h)]; simp
  · rw [ind_false h, ValueIdx.eq_zero_of_ne_one (fun e => h (Fin.ext ((cmpi_eq_one _ _ r.isLt l.isLt).1 e)))]; simp

theorem row9_at (b : Vec Ideal S1x8x1024 .f32) (l : Fin 1024) : k0_pay9 b (ix2 0 l) = boxOf b l 0 := by
  pointwise [k0_pay9, k0_pay8]; rfl
theorem row10_at (b : Vec Ideal S1x8x1024 .f32) (l : Fin 1024) : k0_pay10 b (ix2 0 l) = boxOf b l 1 := by
  pointwise [k0_pay10, k0_pay8]; rfl
theorem row11_at (b : Vec Ideal S1x8x1024 .f32) (l : Fin 1024) : k0_pay11 b (ix2 0 l) = boxOf b l 2 := by
  pointwise [k0_pay11, k0_pay8]; rfl
theorem row12_at (b : Vec Ideal S1x8x1024 .f32) (l : Fin 1024) : k0_pay12 b (ix2 0 l) = boxOf b l 3 := by
  pointwise [k0_pay12, k0_pay8]; rfl
theorem row13_at (b : Vec Ideal S1x8x1024 .f32) (l : Fin 1024) : k0_pay13 b (ix2 0 l) = area (boxOf b l) := by
  pointwise [k0_pay13]; simp only [row9_at, row10_at, row11_at, row12_at]; rfl

theorem sum_mul_eq' {n : ℕ} (f : Fin n → EReal) (l : Fin n) : (∑ x, f x * ind (l = x)) = f l := by
  simp only [@eq_comm _ l]; exact sum_mul_eq f l

theorem col15_at (b : Vec Ideal S1x8x1024 .f32) (r : Fin 1024) : k0_pay15 b (ix2 r 0) = boxOf b r 0 := by
  pointwise [k0_pay15]; simp only [row9_at, eye_at]; exact sum_mul_eq' (fun x => boxOf b x 0) r
theorem col16_at (b : Vec Ideal S1x8x1024 .f32) (r : Fin 1024) : k0_pay16 b (ix2 r 0) = boxOf b r 1 := by
  pointwise [k0_pay16]; simp only [row10_at, eye_at]; exact sum_mul_eq' (fun x => boxOf b x 1) r
theorem col17_at (b : Vec Ideal S1x8x1024 .f32) (r : Fin 1024) : k0_pay17 b (ix2 r 0) = boxOf b r 2 := by
  pointwise [k0_pay17]; simp only [row11_at, eye_at]; exact sum_mul_eq' (fun x => boxOf b x 2) r
theorem col18_at (b : Vec Ideal S1x8x1024 .f32) (r : Fin 1024) : k0_pay18 b (ix2 r 0) = boxOf b r 3 := by
  pointwise [k0_pay18]; simp only [row12_at, eye_at]; exact sum_mul_eq' (fun x => boxOf b x 3) r
theorem col19_at (b : Vec Ideal S1x8x1024 .f32) (r : Fin 1024) : k0_pay19 b (ix2 r 0) = area (boxOf b r) := by
  pointwise [k0_pay19]; simp only [row13_at, eye_at]; exact sum_mul_eq' (fun x => area (boxOf b x)) r

/-! ## The overlap masks -/

theorem cross_at (b b' : Vec Ideal S1x8x1024 .f32) (r l : Fin 1024) :
    k0_pay3 (k0_pay15 b) (k0_pay16 b) (k0_pay17 b) (k0_pay18 b) (k0_pay19 b) b' (ix2 r l) = 1#1
      ↔ hit (boxOf b r) (boxOf b' l) := by
  pointwise [k0_pay3]
  rw [ofBool_eq_one, decide_eq_true_iff, col15_at, col16_at, col17_at, col18_at, col19_at]
  rfl

theorem keptMask_at (p : Vec Ideal S1x1024 .f32) (r l : Fin 1024) :
    k0_pay4 p (ix2 r l) = 1#1 ↔ Ideal.ofBits .f32 0x3F000000#32 < p (ix2 0 l) := by
  pointwise [k0_pay4]
  rw [ofBool_eq_one, decide_eq_true_iff]

theorem pairs_at (b : Vec Ideal S1x8x1024 .f32) (j i : Fin 1024) :
    pairs b (ix2 j i) = ind (hit (boxOf b j) (boxOf b i) ∧ j.val < i.val) := by
  pointwise [pairs, k0_pay24]
  rw [select_ind]
  refine ind_congr ?_
  rw [andi_eq_one, ofBool_eq_one, decide_eq_true_iff, cmpi_slt_one _ _ (by omega) (by omega), col15_at, col16_at, col17_at, col18_at, col19_at,
    row9_at, row10_at, row11_at, row12_at, row13_at]
  rfl

/-! ## The rows -/

theorem crossStep_at (p : FVec Ideal S1024x1 .f32) (m m' : IVec S1024x1024 1) (P : Prop) (r : Fin 1024) (hp : p (ix2 r 0) = ind P) :
    k0_pay21 p m m' (ix2 r 0) = ind (P ∨ ∃ l : Fin 1024, m (ix2 r l) = 1#1 ∧ m' (ix2 r l) = 1#1) := by
  pointwise [k0_pay21]
  rw [hp, bot_eq]
  simp only [select_ind, andi_eq_one]
  rw [fold_max_ind, max_ind]

theorem cand_at (p : FVec Ideal S1024x1 .f32) (P : Fin 1024 → Prop) (hp : ∀ r, p (ix2 r 0) = ind (P r)) (l : Fin 1024) :
    k0_pay23 k0_pay14 p (ix2 0 l) = ind (¬ P l) := by
  pointwise [k0_pay23]
  simp only [hp, eye_at, one_sub_ind]
  exact sum_mul_eq (fun x => ind (¬ P x)) l

theorem sweepRow_at (u : FVec Ideal S1024x1024 .f32) (c p : FVec Ideal S1x1024 .f32) (U : Fin 1024 → Fin 1024 → Prop) (C P : Fin 1024 → Prop)
    (hu : ∀ j i, u (ix2 j i) = ind (U j i)) (hc : ∀ i, c (ix2 0 i) = ind (C i)) (hp : ∀ i, p (ix2 0 i) = ind (P i)) (i : Fin 1024) :
    k0_pay1 k0_pay14 u c p (ix2 0 i) = ind (C i ∧ ¬ ∃ j, U j i ∧ P j) := by
  pointwise [k0_pay1]
  simp only [hu, hc, hp, eye_at, sum_mul_eq' (fun x => ind (P x)), bot_eq]
  simp only [ind_mul]
  rw [fold_max_ind, one_sub_ind, ind_mul]

theorem fold_max_pair (f : Fin 1 × Fin 1024 → Prop) :
    Finset.univ.fold max (⊥ : EReal) (fun x => ind (f x)) = ind (∃ l, f (0, l)) := by
  rw [← fold_max_ind (n := 1023) fun l => f (0, l)]
  show Finset.univ.sup (fun x => ind (f x)) = Finset.univ.sup (fun l => ind (f (0, l)))
  refine le_antisymm (Finset.sup_le fun x _ => ?_) (Finset.sup_le fun l _ => Finset.le_sup (f := fun x => ind (f x)) (Finset.mem_univ (0, l)))
  obtain ⟨a, l⟩ := x
  obtain rfl : a = 0 := Subsingleton.elim _ _
  exact Finset.le_sup (f := fun l => ind (f (0, l))) (Finset.mem_univ l)

theorem changed_at (u : FVec Ideal S1024x1024 .f32) (c p : FVec Ideal S1x1024 .f32) (P P' : Fin 1024 → Prop)
    (hp : ∀ i, p (ix2 0 i) = ind (P i)) (hp' : ∀ i, k0_pay1 k0_pay14 u c p (ix2 0 i) = ind (P' i)) :
    k0_pay2 k0_pay14 u c p = ind (∃ i, ¬ (P' i ↔ P i)) := by
  pointwise [k0_pay2]
  simp only [hp, hp', bot_eq]
  have e : ∀ x : Fin 1 × Fin 1024, FloatOps.absf (F := Ideal) (φ := .f32) (ind (P' x.2) - ind (P x.2)) = ind (¬ (P' x.2 ↔ P x.2)) :=
    fun x => abs_ind_sub (P' x.2) (P x.2)
  simp only [e]
  exact fold_max_pair fun x => ¬ (P' x.2 ↔ P x.2)

end Cert.Proof.Val

end
-- ==== Proof.Val.Sweep.lean ====
/-
  The suppression kernel's rows are the greedy answer: within a block by the sweeps, from block to block by the rows kept.
-/
module

public import proofs.«01_k».proof.Proof.Val.Nms

@[expose] public section

noncomputable section

namespace Cert.Proof.Val

open Cert.KernelIdeal Cert.KernelIdeal.Gen Cert.Proof.KI
open Idealize.ShloMosaic Idealize.ShloMosaic.Pointwise

/-! ## Blocks and rows -/

theorem block_at (f : Boxes Ideal) (k : ℕ) (hk : k < 5) (c : Fin 8) (l : Fin 1024) : block f k hk (ix3 0 c l) = f (ix3 ⟨k, hk⟩ c l) := by
  refine congrArg f (funext fun a => ?_)
  fin_cases a <;> apply Fin.ext
  · show k + 1 * 0 = k; omega
  · show 0 + 1 * c.val = c.val; omega
  · show 0 + 1 * l.val = l.val; omega

theorem row_emb (k : ℕ) (hk : k < 5) (l : Fin 1024) :
    ((Memref.whole cc0_stg1_0).access (Rect.unit (s := S5x1024) ![k, 0] S1x1024.size (inb_row k hk)) : View sig .tc _ _ _).emb (ix2 0 l)
      = ix2 ⟨k, hk⟩ l := by
  refine funext fun a => ?_
  fin_cases a <;> apply Fin.ext
  · show k + 1 * 0 = k; omega
  · show 0 + 1 * l.val = l.val; omega

theorem row_at (g : Keep Ideal) (k : ℕ) (hk : k < 5) (l : Fin 1024) : row g k hk (ix2 0 l) = g (ix2 ⟨k, hk⟩ l) :=
  congrArg g (row_emb k hk l)

theorem setRow_same (g : Keep Ideal) (k : ℕ) (hk : k < 5) (r : FVec Ideal S1x1024 .f32) (l : Fin 1024) :
    setRow g k hk r (ix2 ⟨k, hk⟩ l) = r (ix2 0 l) := by
  rw [← row_emb k hk l]
  exact View.write_emb_of_mem _ _ (Finset.mem_univ _)

theorem setRow_other (g : Keep Ideal) (k : ℕ) (hk : k < 5) (r : FVec Ideal S1x1024 .f32) (a : Fin 5) (ha : a.val ≠ k) (l : Fin 1024) :
    setRow g k hk r (ix2 a l) = g (ix2 a l) := by
  refine View.write_of_not_mem _ _ _ fun h => ?_
  obtain ⟨x, -, hx⟩ := Finset.mem_map.1 h
  have h0 := congrArg Fin.val (congrFun hx (0 : Fin 2))
  have : k + 1 * (x (0 : Fin 2)).val = a.val := h0
  have hx0 : (x (0 : Fin 2)).val < 1 := (x (0 : Fin 2)).isLt
  omega

/-! ## The sweeps -/

theorem one_eq : Ideal.ofBits .f32 0x3F800000#32 = ((1 : ℝ) : EReal) := by
  simp [Ideal.ofBits, Ideal.ieee, -EReal.coe_mul]; norm_num

theorem again_iff (n : ℕ) (hn : n + 1 ≤ 1024) (ch : EReal) (p : FVec Ideal S1x1024 .f32) :
    again (F := Ideal) (done (n + 1), ch, p) = 1#1 ↔ Ideal.ofBits .f32 0x3F000000#32 < ch := by
  unfold again
  have h : Scalar.cmpi CmpIPredicate.slt (done (n + 1)) 1024#32 = 1#1 := (cmpi_slt_one (1024 - (n + 1)) 1024 (by omega) (by omega)).2 (by omega)
  show IntOp.andi _ _ = 1#1 ↔ _
  rw [andi_eq_one]
  refine (and_iff_left h).trans ?_
  show BitVec.ofBool (decide _) = 1#1 ↔ _
  rw [ofBool_eq_one, decide_eq_true_iff]
  rfl

theorem sweeps_at (H : ℕ → ℕ → Prop) (b : ℕ) (u : FVec Ideal S1024x1024 .f32) (c : FVec Ideal S1x1024 .f32)
    (hu : ∀ j i : Fin 1024, u (ix2 j i) = ind (H (b + j) (b + i) ∧ j.val < i.val)) (hc : ∀ i : Fin 1024, c (ix2 0 i) = ind (candidate H b i)) :
    ∀ n, n ≤ 1024 → ∀ (ch : EReal) (p : FVec Ideal S1x1024 .f32) (P : Fin 1024 → Prop), (∀ i, p (ix2 0 i) = ind (P i)) →
      (∀ i : Fin 1024, i.val < 1024 - n → (P i ↔ kept H (b + i))) →
      (¬ Ideal.ofBits .f32 0x3F000000#32 < ch → ∀ i : Fin 1024, P i ↔ kept H (b + i)) →
      ∀ i : Fin 1024, (sweeps (F := Ideal) k0_pay14 u c n (done n, ch, p)).2.2 (ix2 0 i) = ind (kept H (b + i)) := by
  intro n
  induction n with
  | zero =>
    intro _ ch p P hp hr _ i
    rw [sweeps]
    exact (hp i).trans (ind_congr (hr i (by have := i.isLt; omega)))
  | succ n ih =>
    intro hn ch p P hp hr hs i
    rw [sweeps]
    by_cases h : again (F := Ideal) (done (n + 1), ch, p) = 1#1
    · rw [if_pos h]
      have hp' : ∀ i, k0_pay1 k0_pay14 u c p (ix2 0 i) = ind (sweep H b P i) := fun i => sweepRow_at u c p _ _ P hu hc hp i
      have hd : Scalar.addi (done (n + 1)) 1#32 = done n := done_succ n hn
      show (sweeps (F := Ideal) k0_pay14 u c n (Scalar.addi (done (n + 1)) 1#32, k0_pay2 k0_pay14 u c p, k0_pay1 k0_pay14 u c p)).2.2 (ix2 0 i) = _
      rw [hd]
      refine ih (by omega) _ _ (sweep H b P) hp' (fun i hi => sweep_right H b P (1024 - (n + 1)) hr i (by omega)) (fun hch i => ?_) i
      rw [changed_at u c p P (sweep H b P) hp hp', half_eq, half_lt_ind, not_exists] at hch
      have hf : ∀ i, sweep H b P i ↔ P i := fun i => not_not.1 (hch i)
      exact (hf i).trans (sweep_fixed H b P hf i)
    · rw [if_neg h]
      exact (hp i).trans (ind_congr (hs (fun e => h ((again_iff n hn ch p).2 e)) i))

/-! ## The blocks -/

/-- Box `n` of the five blocks. -/
def boxAt (f : Boxes Ideal) (n : ℕ) : Box :=
  fun a => f (ix3 ⟨n / 1024 % 5, Nat.mod_lt _ (by decide)⟩ (a.castLE (by decide)) ⟨n % 1024, Nat.mod_lt _ (by decide)⟩)

theorem boxOf_block (f : Boxes Ideal) (k : ℕ) (hk : k < 5) (l : Fin 1024) : boxOf (block f k hk) l = boxAt f (1024 * k + l) := by
  funext a
  have hl := l.isLt
  rw [boxOf, block_at, boxAt]
  congr 2
  · apply Fin.ext; show k = (1024 * k + l.val) / 1024 % 5; omega
  · apply Fin.ext; show l.val = (1024 * k + l.val) % 1024; omega

/-- The kernel's test between boxes of the five blocks. -/
def hits (f : Boxes Ideal) (i j : ℕ) : Prop := hit (boxAt f i) (boxAt f j)

/-- The rows of the first `n` blocks are the greedy answer. -/
def Right (f : Boxes Ideal) (g : Keep Ideal) (n : ℕ) : Prop :=
  ∀ (a : Fin 5) (l : Fin 1024), a.val < n → g (ix2 a l) = ind (kept (hits f) (1024 * a + l))

theorem crossed_at (f : Boxes Ideal) (g : Keep Ideal) (k : ℕ) (hk : k < 5) (hg : Right f g k) (r : Fin 1024) : ∀ n, n ≤ k →
    crossed (block f k hk) f g n (ix2 r 0) = ind (∃ j < 1024 * n, kept (hits f) j ∧ hits f j (1024 * k + r)) := by
  intro n
  induction n with
  | zero =>
    intro _
    rw [ind_false (by rintro ⟨j, hj, -⟩; omega)]
    show Ideal.ofBits .f32 0x00000000#32 = 0
    simp [Ideal.ofBits, Ideal.ieee]
  | succ n ih =>
    intro hn
    rw [crossed, dif_pos (show n < 5 by omega), crossStep_at _ _ _ _ r (ih (by omega))]
    refine ind_congr ?_
    simp only [cross_at, keptMask_at, row_at, hg ⟨n, by omega⟩ _ (show n < k by omega), half_eq, half_lt_ind, boxOf_block]
    constructor
    · rintro (⟨j, hj, h⟩ | ⟨l, h1, h2⟩)
      · exact ⟨j, by omega, h⟩
      · exact ⟨1024 * n + l, by have := l.isLt; omega, h2, (hit_comm _ _).1 h1⟩
    · rintro ⟨j, hj, h1, h2⟩
      by_cases hjn : j < 1024 * n
      · exact Or.inl ⟨j, hjn, h1, h2⟩
      · refine Or.inr ⟨⟨j - 1024 * n, by omega⟩, ?_⟩
        have e : 1024 * n + (j - 1024 * n) = j := by omega
        simp only [e]
        exact ⟨(hit_comm _ _).1 h2, h1⟩

theorem keepRow_at (f : Boxes Ideal) (g : Keep Ideal) (k : ℕ) (hk : k < 5) (hg : Right f g k) (l : Fin 1024) :
    keepRow f g k hk (ix2 0 l) = ind (kept (hits f) (1024 * k + l)) := by
  have hc : ∀ i : Fin 1024, k0_pay23 k0_pay14 (crossed (block f k hk) f g k) (ix2 0 i) = ind (candidate (hits f) (1024 * k) i) := by
    intro i
    rw [cand_at _ _ (fun r => crossed_at f g k hk hg r k le_rfl) i]
    refine ind_congr ?_
    unfold candidate
    push Not
    rfl
  refine sweeps_at (hits f) (1024 * k) (pairs (block f k hk)) _ (fun j i => ?_) hc 1024 le_rfl (Ideal.ofBits .f32 0x3F800000#32) _
    (candidate (hits f) (1024 * k) ·) hc (fun i hi => by omega) (fun h => ?_) l
  · rw [pairs_at, boxOf_block, boxOf_block]; rfl
  · refine absurd ?_ h
    rw [half_eq, one_eq]
    exact EReal.coe_lt_coe_iff.2 (by norm_num)

theorem nmsStep_right (f : Boxes Ideal) (g : Keep Ideal) (k : ℕ) (hk : k < 5) (hg : Right f g k) : Right f (nmsStep f g k hk) (k + 1) := by
  have hg' : Right f (cleared g k) k := by
    unfold cleared
    split
    · intro a l ha; omega
    · exact hg
  intro a l ha
  unfold nmsStep
  by_cases h : a.val = k
  · obtain rfl : a = ⟨k, hk⟩ := Fin.ext h
    exact (setRow_same _ k hk _ l).trans (keepRow_at f _ k hk hg' l)
  · rw [setRow_other _ _ _ _ _ h]
    exact hg' a l (by omega)

theorem keepAfter_right (f : Boxes Ideal) : ∀ n, n ≤ 5 → Right f (keepAfter f n) n := by
  intro n
  induction n with
  | zero => intro _ a l ha; omega
  | succ n ih =>
    intro hn
    rw [keepAfter_succ f n (by omega)]
    exact nmsStep_right f _ n (by omega) (ih (by omega))

/-- What the kernel's buffer holds after the last block. -/
theorem keepAfter_at (f : Boxes Ideal) (a : Fin 5) (l : Fin 1024) :
    keepAfter f 5 (ix2 a l) = ind (kept (hits f) (1024 * a + l)) := keepAfter_right f 5 le_rfl a l a.isLt

end Cert.Proof.Val

end
-- ==== Proof.Val.Scatter.lean ====
/-
  The scatters that write at literal starts: each lays its update over the operand's corner, so an element inside the
  update's extent is the update's, and a row the update does not reach stays what it was. And a scatter that replaces
  commutes with a map of the elements.
-/
module

public import proofs.«01_k».proof.Proof.KI.Region
public import Idealize.ShloMosaic.Lib.Pointwise
public import Idealize.ShloMosaic.Lib.Routing.OpsSet
public import Idealize.ShloMosaic.Lib.Routing.OpsPair
public import Idealize.ShloMosaic.Lib.Routing.OpsOne

@[expose] public section

noncomputable section

namespace Cert.Proof.Val

open Cert.KernelIdeal Cert.KernelIdeal.Gen Cert.Proof.KI
open Idealize.ShloMosaic Idealize.ShloMosaic.Pointwise Idealize.ShloMosaic.TcCoe
open Idealize.ShloMosaic.Routing

/-- A replacing scatter of the images is the image of the replacing scatter. -/
theorem scatter_map {α β : Type} {w : Nat} {s si u : Shape} (d : ScatterDims s si u) (φ : α → β) (x : s.Idx → α)
    (idx : IVec si w) (upd : u.Idx → α) :
    Host.scatter d (fun _ b => b) (fun i => φ (x i)) idx (fun k => φ (upd k))
      = fun i => φ (Host.scatter d (fun _ b => b) x idx upd i) := by
  unfold Host.scatter
  generalize List.finRange u.numel = l
  induction l generalizing x with
  | nil => rfl
  | cons n l ih =>
    rw [List.foldl_cons, List.foldl_cons]
    rcases h : d.resultIdx? (u.rowMajor.symm n) idx with _ | p
    · exact ih x
    · dsimp only
      rw [← ih]
      congr 1
      funext i
      by_cases e : i = p
      · rw [if_pos e, if_pos e]
      · rw [if_neg e, if_neg e]

theorem start_boxes (idx : IVec S1 32) (h : ∀ i, idx i = 0#32) (k : S5000x4.Idx) (a : Fin 2) :
    scatter_S5120x4_S1_S5000x4_01_n_0_0.start k idx a = 0 := by
  unfold ScatterDims.start
  split
  · rw [h]; rfl
  · rfl

theorem boxes_lands (idx : IVec S1 32) (h : ∀ i, idx i = 0#32) (k : S5000x4.Idx) (r : Fin 5120) (c : Fin 4) :
    scatter_S5120x4_S1_S5000x4_01_n_0_0.resultIdx? k idx = some (ix2 r c) ↔ (k 0).val = r.val ∧ (k 1).val = c.val := by
  refine (resultIdx?_ix2 (R := 5120) (C := 4) _ k idx r c).trans ?_
  have w0 : scatter_S5120x4_S1_S5000x4_01_n_0_0.window k 0 = (k 0).val := rfl
  have w1 : scatter_S5120x4_S1_S5000x4_01_n_0_0.window k 1 = (k 1).val := rfl
  rw [start_boxes idx h k 0, start_boxes idx h k 1, w0, w1]
  omega

theorem chans_lands (idx : IVec S2 32) (h : ∀ i, idx i = 0#32) (k : S6x5000.Idx) (r : Fin 8) (c : Fin 5120) :
    scatter_S8x5120_S2_S6x5000_01_n_01_0.resultIdx? k idx = some (ix2 r c) ↔ (k 0).val = r.val ∧ (k 1).val = c.val := by
  refine (resultIdx?_ix2 (R := 8) (C := 5120) _ k idx r c).trans ?_
  have w0 : scatter_S8x5120_S2_S6x5000_01_n_01_0.window k 0 = (k 0).val := rfl
  have w1 : scatter_S8x5120_S2_S6x5000_01_n_01_0.window k 1 = (k 1).val := rfl
  have e (q : Fin 2) : scatter_S8x5120_S2_S6x5000_01_n_01_0.start k idx q = 0 := by
    refine (start_pair (R := 8) (C := 5120) _ rfl rfl idx k q).trans ?_
    rw [h]; rfl
  rw [e 0, e 1, w0, w1]
  omega

theorem row_lands (idx : IVec S2 32) (k : S5000.Idx) (r : Fin 8) (c : Fin 5120) :
    scatter_S8x5120_S2_S5000_0_0_01_0.resultIdx? k idx = some (ix2 r c)
      ↔ (idx (ix1 0)).toInt = r.val ∧ (idx (ix1 1)).toInt + (k 0).val = c.val := by
  refine (resultIdx?_ix2 (R := 8) (C := 5120) _ k idx r c).trans ?_
  have w0 : scatter_S8x5120_S2_S5000_0_0_01_0.window k 0 = 0 := rfl
  have w1 : scatter_S8x5120_S2_S5000_0_0_01_0.window k 1 = (k 0).val := rfl
  have e (q : Fin 2) : scatter_S8x5120_S2_S5000_0_0_01_0.start k idx q = (idx (ix1 q)).toInt :=
    start_pair (R := 8) (C := 5120) _ rfl rfl idx k q
  rw [e 0, e 1, w0, w1]
  omega

theorem map_lands (idx : IVec S2 32) (h : ∀ i, idx i = 0#32) (k : S6.Idx) (r : Fin 8) (c : Fin 128) :
    scatter_S8x128_S2_S6_0_0_01_0.resultIdx? k idx = some (ix2 r c) ↔ 0 = r.val ∧ (k 0).val = c.val := by
  refine (resultIdx?_ix2 (R := 8) (C := 128) _ k idx r c).trans ?_
  have w0 : scatter_S8x128_S2_S6_0_0_01_0.window k 0 = 0 := rfl
  have w1 : scatter_S8x128_S2_S6_0_0_01_0.window k 1 = (k 0).val := rfl
  have e (q : Fin 2) : scatter_S8x128_S2_S6_0_0_01_0.start k idx q = 0 := by
    refine (start_pair (R := 8) (C := 128) _ rfl rfl idx k q).trans ?_
    rw [h]; rfl
  rw [e 0, e 1, w0, w1]
  omega

theorem ext1 {A : ℕ} {k : (shape1 A).Idx} {a : Fin A} (h : (k 0).val = a.val) : k = ix1 a := by
  funext q
  match q with
  | ⟨0, _⟩ => exact Fin.ext h

theorem ext2 {A B : ℕ} {k : (shape2 A B).Idx} {a : Fin A} {b : Fin B} (h : (k 0).val = a.val ∧ (k 1).val = b.val) :
    k = ix2 a b := by
  funext q
  match q with
  | ⟨0, _⟩ => exact Fin.ext h.1
  | ⟨1, _⟩ => exact Fin.ext h.2

theorem scatter_boxes {α : Type} (x : S5120x4.Idx → α) (idx : IVec S1 32) (h : ∀ i, idx i = 0#32) (u : S5000x4.Idx → α)
    (r : Fin 5120) (hr : r.val < 5000) (c : Fin 4) :
    Host.scatter scatter_S5120x4_S1_S5000x4_01_n_0_0 (fun _ b => b) x idx u (ix2 r c) = u (ix2 ⟨r.val, hr⟩ c) := by
  refine scatter_set_hit _ x idx u _ _ (fun k hk => ?_) (ix2 ⟨r.val, hr⟩ c) ?_
  · exact congrArg u (ext2 ((boxes_lands idx h k r c).1 hk))
  · exact (boxes_lands idx h _ r c).2 ⟨rfl, rfl⟩

theorem scatter_chans {α : Type} (x : S8x5120.Idx → α) (idx : IVec S2 32) (h : ∀ i, idx i = 0#32) (u : S6x5000.Idx → α)
    (r : Fin 8) (hr : r.val < 6) (n : Fin 5120) (hn : n.val < 5000) :
    Host.scatter scatter_S8x5120_S2_S6x5000_01_n_01_0 (fun _ b => b) x idx u (ix2 r n)
      = u (ix2 ⟨r.val, hr⟩ ⟨n.val, hn⟩) := by
  refine scatter_set_hit _ x idx u _ _ (fun k hk => ?_) (ix2 ⟨r.val, hr⟩ ⟨n.val, hn⟩) ?_
  · exact congrArg u (ext2 ((chans_lands idx h k r n).1 hk))
  · exact (chans_lands idx h _ r n).2 ⟨rfl, rfl⟩

theorem scatter_row_hit {α : Type} (x : S8x5120.Idx → α) (idx : IVec S2 32) (r : Fin 8)
    (h0 : (idx (ix1 0)).toInt = r.val) (h1 : idx (ix1 1) = 0#32) (u : S5000.Idx → α) (n : Fin 5120) (hn : n.val < 5000) :
    Host.scatter scatter_S8x5120_S2_S5000_0_0_01_0 (fun _ b => b) x idx u (ix2 r n) = u (ix1 ⟨n.val, hn⟩) := by
  have z : (0#32).toInt = 0 := rfl
  refine scatter_set_hit _ x idx u _ _ (fun k hk => ?_) (ix1 ⟨n.val, hn⟩) ?_
  · have := ((row_lands idx k r n).1 hk).2
    rw [h1, z] at this
    exact congrArg u (ext1 (show (k 0).val = n.val by omega))
  · refine (row_lands idx _ r n).2 ⟨h0, ?_⟩
    rw [h1, z]
    show (0 : Int) + (n.val : Int) = n.val
    omega

theorem scatter_row_miss {α : Type} (x : S8x5120.Idx → α) (idx : IVec S2 32) (r : Fin 8)
    (h0 : (idx (ix1 0)).toInt ≠ r.val) (u : S5000.Idx → α) (n : Fin 5120) :
    Host.scatter scatter_S8x5120_S2_S5000_0_0_01_0 (fun _ b => b) x idx u (ix2 r n) = x (ix2 r n) :=
  scatter_set_miss _ x idx u _ fun k hk => h0 ((row_lands idx k r n).1 hk).1

theorem scatter_map_row {α : Type} (x : S8x128.Idx → α) (idx : IVec S2 32) (h : ∀ i, idx i = 0#32) (u : S6.Idx → α)
    (l : Fin 128) (hl : l.val < 6) :
    Host.scatter scatter_S8x128_S2_S6_0_0_01_0 (fun _ b => b) x idx u (ix2 0 l) = u (ix1 ⟨l.val, hl⟩) := by
  refine scatter_set_hit _ x idx u _ _ (fun k hk => ?_) (ix1 ⟨l.val, hl⟩) ?_
  · exact congrArg u (ext1 ((map_lands idx h k 0 l).1 hk).2)
  · exact (map_lands idx h _ 0 l).2 ⟨rfl, rfl⟩

end Cert.Proof.Val
-- ==== Proof.Val.Spec.lean ====
/-
  The quantities both programs compute on the way: the sort order, the boxes as corners in that order, which of them are
  kept, and the keep flags back in the boxes' own order.
-/
module

public import proofs.«01_k».proof.Proof.Val.Sweep
public import proofs.«01_k».proof.Proof.Val.Scatter

@[expose] public section

noncomputable section

namespace Cert.Proof.Val

open Cert.KernelIdeal Cert.KernelIdeal.Gen Cert.Proof.KI
open Idealize.ShloMosaic Idealize.ShloMosaic.Pointwise Idealize.ShloMosaic.TcCoe

/-- The sort keys: the second logit's logistic, negated. -/
def keys (x0 : S1x5000x2.Idx → EReal) : S5000.Idx → EReal :=
  fun i => -Ideal.div 1 (1 + Ideal.exp (-x0 (ix3 0 (i 0) 1)))

/-- The positions in ascending order of their keys. -/
def permOf (k : S5000.Idx → EReal) : IVec S5000 32 :=
  (Host.sort2 S5000 0 (comparator_f32_i32_d0 (F := Ideal)) k (iotaInDim S5000 32 0)).2

/-- Positions as one column of indices, a negative one counted from the end. -/
def column (p : IVec S5000 32) : IVec S5000x1 32 :=
  broadcastInDim S5000x1 ![0] bcast_S5000_S5000x1_0
    (select (cmpi .slt p (broadcastInDim S5000 ![] bcast_S_S5000 (constantI S_ 32 0#32)))
      (addi p (broadcastInDim S5000 ![] bcast_S_S5000 (constantI S_ 32 5000#32))) p)

/-- The boxes' corners: the centre less or plus the distance to each side. -/
def corners (x1 : S1x5000x6.Idx → EReal) : S5000x4.Idx → EReal :=
  fun i => x1 (ix3 0 (i 0) ⟨2 + (i 1).val, by have := (i 1).isLt; simp at this ⊢; omega⟩) * Ideal.ofBits .f32 (lit0 (S4.rowMajor (ix1 (i 1))))
    + x1 (ix3 0 (i 0) ⟨(i 1).val % 2, by omega⟩)

def orderedOf (y : S5000x4.Idx → EReal) (p : IVec S5000 32) : S5000x4.Idx → EReal :=
  Host.gather gather_S5000x4_S5000x1_S5000x4_1_0_n_n_0_1_14 y (column p)

/-- Box `n` in the sort order. -/
def sortedBox (x0 : S1x5000x2.Idx → EReal) (x1 : S1x5000x6.Idx → EReal) (n : Fin 5000) : Box :=
  fun a => orderedOf (corners x1) (permOf (keys x0)) (ix2 n a)

/-- Of two boxes in the sort order, whether one strikes the other. -/
def sortedHits (x0 : S1x5000x2.Idx → EReal) (x1 : S1x5000x6.Idx → EReal) (i j : ℕ) : Prop :=
  ∃ (hi : i < 5000) (hj : j < 5000), hit (sortedBox x0 x1 ⟨i, hi⟩) (sortedBox x0 x1 ⟨j, hj⟩)

open Classical in
/-- The kept boxes, as flags in the sort order. -/
def flags (x0 : S1x5000x2.Idx → EReal) (x1 : S1x5000x6.Idx → EReal) : IVec S5000 1 :=
  fun i => BitVec.ofBool (decide (kept (sortedHits x0 x1) (i 0).val))

/-- Flags in the sort order put back in the boxes' own order. -/
def unsorted (p : IVec S5000 32) (f : IVec S5000 1) : IVec S5000 1 :=
  Host.scatter scatter_S5000_S5000x1_S5000_n_0_0_1 (fun _ b => b)
    (broadcastInDim S5000 ![] bcast_S_S5000 (constantI S_ 1 0#1)) (column p) f

/-- The keep flag of box `n`, as a number. -/
def keepOf (x0 : S1x5000x2.Idx → EReal) (x1 : S1x5000x6.Idx → EReal) (n : Fin 5000) : EReal :=
  FloatOps.uitofp (F := Ideal) .f32 (unsorted (permOf (keys x0)) (flags x0 x1) (ix1 n))

/-- The number of pixels a box's centre and sides are given in. -/
abbrev px : EReal := Ideal.ofBits .f32 0x43000000#32

/-- Coordinate `r` of box `n`'s centre through the affine map `a`. -/
def mapped (x : S1x5000x6.Idx → EReal) (a : S1x1x2x3.Idx → EReal) (r : Fin 2) (n : Fin 5000) : EReal :=
  a (ix4 0 0 r 0) * (x (ix3 0 n 0) * px) + a (ix4 0 0 r 1) * (x (ix3 0 n 1) * px) + a (ix4 0 0 r 2)

/-- The four sides of box `n`, its distances scaled by the map's diagonal. -/
def left (x : S1x5000x6.Idx → EReal) (a : S1x1x2x3.Idx → EReal) (n : Fin 5000) : EReal :=
  mapped x a 0 n - x (ix3 0 n 2) * px * a (ix4 0 0 0 0)
def top (x : S1x5000x6.Idx → EReal) (a : S1x1x2x3.Idx → EReal) (n : Fin 5000) : EReal :=
  mapped x a 1 n - x (ix3 0 n 3) * px * a (ix4 0 0 1 1)
def right (x : S1x5000x6.Idx → EReal) (a : S1x1x2x3.Idx → EReal) (n : Fin 5000) : EReal :=
  mapped x a 0 n + x (ix3 0 n 4) * px * a (ix4 0 0 0 0)
def bottom (x : S1x5000x6.Idx → EReal) (a : S1x1x2x3.Idx → EReal) (n : Fin 5000) : EReal :=
  mapped x a 1 n + x (ix3 0 n 5) * px * a (ix4 0 0 1 1)

/-- The gather reads a row. -/
theorem orderedOf_row (y : S5000x4.Idx → EReal) (p : IVec S5000 32) (n : Fin 5000) :
    ∃ j : Fin 5000, ∀ a : Fin 4, orderedOf y p (ix2 n a) = y (ix2 j a) := by
  unfold orderedOf Host.gather
  generalize column p = q
  refine ⟨gather_S5000x4_S5000x1_S5000x4_1_0_n_n_0_1_14.operandIdx (ix2 n 0) q 0, fun a => congrArg y (ext2 ⟨?_, ?_⟩)⟩
  · have hs (c) : gather_S5000x4_S5000x1_S5000x4_1_0_n_n_0_1_14.siIdx (ix2 n a) c = gather_S5000x4_S5000x1_S5000x4_1_0_n_n_0_1_14.siIdx (ix2 n 0) c :=
      funext fun b => match b with
        | 0 => Fin.ext rfl
        | 1 => Fin.ext rfl
    show GatherDims.start _ (ix2 n a) q 0 + 0 + 0 = GatherDims.start _ (ix2 n 0) q 0 + 0 + 0
    unfold GatherDims.start
    simp only [hs]
  · match a with
    | 0 => rfl
    | 1 => rfl
    | 2 => rfl
    | 3 => rfl

theorem sign0 : Ideal.ofBits .f32 (lit0 (S4.rowMajor (ix1 0))) = ((-1 : ℝ) : EReal) := by
  rw [show lit0 (S4.rowMajor (ix1 0)) = 0xBF800000#32 by decide +kernel]
  simp [Ideal.ofBits, Ideal.ieee, -EReal.coe_mul]
  norm_num
theorem sign1 : Ideal.ofBits .f32 (lit0 (S4.rowMajor (ix1 1))) = ((-1 : ℝ) : EReal) := by
  rw [show lit0 (S4.rowMajor (ix1 1)) = 0xBF800000#32 by decide +kernel]
  simp [Ideal.ofBits, Ideal.ieee, -EReal.coe_mul]
  norm_num
theorem sign2 : Ideal.ofBits .f32 (lit0 (S4.rowMajor (ix1 2))) = ((1 : ℝ) : EReal) := by
  rw [show lit0 (S4.rowMajor (ix1 2)) = 0x3F800000#32 by decide +kernel]
  exact one_eq
theorem sign3 : Ideal.ofBits .f32 (lit0 (S4.rowMajor (ix1 3))) = ((1 : ℝ) : EReal) := by
  rw [show lit0 (S4.rowMajor (ix1 3)) = 0x3F800000#32 by decide +kernel]
  exact one_eq

theorem span (l r c : EReal) (hl : l < ⊤) (hr : r < ⊤) :
    (r * ((1 : ℝ) : EReal) + c = ⊤ → l * ((-1 : ℝ) : EReal) + c = ⊤) ∧ (l * ((-1 : ℝ) : EReal) + c = ⊥ → r * ((1 : ℝ) : EReal) + c = ⊥) := by
  rw [EReal.coe_neg, EReal.coe_one, mul_one, mul_neg, mul_one]
  have hn : -l ≠ ⊥ := by rw [ne_eq, EReal.neg_eq_bot_iff]; exact hl.ne
  induction c with
  | bot => simp
  | top => exact ⟨fun _ => EReal.add_top_of_ne_bot hn, fun h => absurd ((EReal.add_top_of_ne_bot hn).symm.trans h) (by simp)⟩
  | coe c =>
    refine ⟨fun h => ?_, fun h => ?_⟩
    · exact absurd h (EReal.add_lt_top hr.ne (EReal.coe_ne_top c)).ne
    · rcases EReal.add_eq_bot_iff.mp h with h | h <;> simp_all

/-- A box with no side at plus infinity is bounded. -/
theorem corners_bounded (x1 : S1x5000x6.Idx → EReal) (h : ∀ (n : Fin 5000) (a : Fin 4), x1 (ix3 0 n ⟨2 + a.val, by omega⟩) < ⊤) (n : Fin 5000) :
    Bounded (fun a => corners x1 (ix2 n a)) := by
  have e0 : corners x1 (ix2 n 0) = x1 (ix3 0 n 2) * ((-1 : ℝ) : EReal) + x1 (ix3 0 n 0) := by rw [← sign0]; rfl
  have e1 : corners x1 (ix2 n 1) = x1 (ix3 0 n 3) * ((-1 : ℝ) : EReal) + x1 (ix3 0 n 1) := by rw [← sign1]; rfl
  have e2 : corners x1 (ix2 n 2) = x1 (ix3 0 n 4) * ((1 : ℝ) : EReal) + x1 (ix3 0 n 0) := by
    unfold corners
    refine congrArg₂ (fun u v : EReal => u + v) (congrArg₂ (fun u v : EReal => u * v) (congrArg (fun k => x1 (ix3 0 n k)) (Fin.ext ?_)) sign2)
      (congrArg (fun k => x1 (ix3 0 n k)) (Fin.ext ?_))
    · rfl
    · exact (by decide : (2 : ℕ) % 2 = 0)
  have e3 : corners x1 (ix2 n 3) = x1 (ix3 0 n 5) * ((1 : ℝ) : EReal) + x1 (ix3 0 n 1) := by
    unfold corners
    refine congrArg₂ (fun u v : EReal => u + v) (congrArg₂ (fun u v : EReal => u * v) (congrArg (fun k => x1 (ix3 0 n k)) (Fin.ext ?_)) sign3)
      (congrArg (fun k => x1 (ix3 0 n k)) (Fin.ext ?_))
    · rfl
    · exact (by decide : (3 : ℕ) % 2 = 1)
  unfold Bounded
  simp only [e0, e1, e2, e3]
  exact ⟨span _ _ _ (h n 0) (h n 2), span _ _ _ (h n 1) (h n 3)⟩

theorem sortedBox_bounded (x0 : S1x5000x2.Idx → EReal) (x1 : S1x5000x6.Idx → EReal)
    (h : ∀ (n : Fin 5000) (a : Fin 4), x1 (ix3 0 n ⟨2 + a.val, by omega⟩) < ⊤) (n : Fin 5000) : Bounded (sortedBox x0 x1 n) := by
  obtain ⟨j, hj⟩ := orderedOf_row (corners x1) (permOf (keys x0)) n
  rw [show sortedBox x0 x1 n = fun a => corners x1 (ix2 j a) from funext hj]
  exact corners_bounded x1 h j

/-- The number of a flag. -/
theorem uitofp_flag (b : BitVec 1) : (FloatOps.uitofp (F := Ideal) .f32 b : EReal) = ind (b = 1#1) := by
  show ((b.toNat : ℝ) : EReal) = _
  rcases (by revert b; decide : b = 0#1 ∨ b = 1#1) with rfl | rfl
  · rw [ind_false (by decide)]; simp
  · rw [ind_true rfl]; simp

theorem flags_at (x0 : S1x5000x2.Idx → EReal) (x1 : S1x5000x6.Idx → EReal) (n : Fin 5000) :
    flags x0 x1 (ix1 n) = 1#1 ↔ kept (sortedHits x0 x1) n.val := by
  classical
  unfold flags
  exact (ofBool_eq_one _).trans decide_eq_true_iff

end Cert.Proof.Val
-- ==== Proof.Val.KHost.lean ====
/-
  What the kernel's host operations hold: the sort order, the boxes laid out in blocks for the first launch, and the four
  arrays the second launch reads.
-/
module

public import proofs.«01_k».proof.Proof.KI.Run
public import proofs.«01_k».proof.Proof.Val.Spec
public import Idealize.ShloMosaic.Lib.Pointwise
public import Idealize.ShloMosaic.Lib.StableHlo.ReadAt
public import Idealize.ShloMosaic.Lib.StableHlo.RunRead
public import Idealize.ShloMosaic.Lib.IdealHost

@[expose] public section

noncomputable section

namespace Cert.Proof.Val

open Cert.KernelIdeal Cert.KernelIdeal.Gen Cert.Proof.KI
open Idealize.ShloMosaic Idealize.ShloMosaic.Pointwise Idealize.ShloMosaic.TcCoe

/-- The two words of an index pair. -/
theorem pair_fst (x y : IVec S1 32) (h) (c : BitVec 32) (hx : ∀ i, x i = c) : concatenate S2 0 [⟨S1, x⟩, ⟨S1, y⟩] h (ix1 0) = c := by
  pointwise
  exact hx _

theorem pair_snd (x y : IVec S1 32) (h) (c : BitVec 32) (hy : ∀ i, y i = c) : concatenate S2 0 [⟨S1, x⟩, ⟨S1, y⟩] h (ix1 1) = c := by
  pointwise
  exact hy _

theorem pair_zero (x y : IVec S1 32) (h) (hx : ∀ i, x i = 0#32) (hy : ∀ i, y i = 0#32) (i : S2.Idx) :
    concatenate S2 0 [⟨S1, x⟩, ⟨S1, y⟩] h i = 0#32 := by
  obtain ⟨n, rfl⟩ : ∃ n, i = ix1 n := ⟨i 0, ext1 rfl⟩
  match n with
  | ⟨0, _⟩ => exact pair_fst x y h _ hx
  | ⟨1, _⟩ => exact pair_snd x y h _ hy

variable (V : Valuation τ sig (Elt Ideal))

theorem k_keys : StableHlo.after hostOps0 V (Proc.devRef .tc main_v8) = keys (V (Proc.devRef .tc main_arg0)) := by
  funext i
  obtain ⟨n, rfl⟩ : ∃ n, i = ix1 n := ⟨i 0, ext1 rfl⟩
  after_reads_at
  rfl

theorem k_cst (i : S4.Idx) : StableHlo.after hostOps0 V (Proc.devRef .tc main_cst) i = Ideal.ofBits .f32 (lit0 (S4.rowMajor i)) := by
  after_reads_at

theorem k_logit (n : Fin 5000) : StableHlo.after hostOps0 V (Proc.devRef .tc main_v1) (ix1 n) = V (Proc.devRef .tc main_arg0) (ix3 0 n 1) := by
  after_reads_at

theorem k_perm : StableHlo.after hostOps0_1 V (Proc.devRef .tc main_v9) = permOf (V (Proc.devRef .tc main_v8)) := by
  after_reads_simp
  rfl

theorem k_centres : StableHlo.after hostOps0_2 V (Proc.devRef .tc main_v10) = (fun i => V (Proc.devRef .tc main_arg1) (ix3 0 (i 0) (i 1))) := by
  funext i
  obtain ⟨n, a, rfl⟩ : ∃ n a, i = ix2 n a := ⟨i 0, i 1, ext2 ⟨rfl, rfl⟩⟩
  after_reads_at

theorem k_blocks (hc : ∀ i, V (Proc.devRef .tc main_cst) i = Ideal.ofBits .f32 (lit0 (S4.rowMajor i)))
    (a : Fin 5) (b : Fin 8) (hb : b.val < 4) (l : Fin 1024) (hn : 1024 * a.val + l.val < 5000) :
    StableHlo.after hostOps0_2 V (Proc.devRef .tc main_v34) (ix3 a b l)
      = orderedOf (corners (V (Proc.devRef .tc main_arg1))) (V (Proc.devRef .tc main_v9)) (ix2 ⟨1024 * a.val + l.val, hn⟩ ⟨b.val, hb⟩) := by
  after_reads_at
  rw [dif_pos hb, scatter_boxes _ _ (fun _ => by pointwise) _ _ (show a.val * 1024 + l.val < 5000 by omega)]
  refine congr (congr (congrArg (Host.gather gather_S5000x4_S5000x1_S5000x4_1_0_n_n_0_1_14) ?_) ?_) ?_
  · funext i
    obtain ⟨n, c, rfl⟩ : ∃ n c, i = ix2 n c := ⟨i 0, i 1, ext2 ⟨rfl, rfl⟩⟩
    pointwise
    rw [hc]
    rfl
  · rfl
  · exact ext2 ⟨show a.val * 1024 + l.val = 1024 * a.val + l.val by omega, rfl⟩

theorem k_chans (r : Fin 8) (hr : r.val < 6) (n : Fin 5120) (hn : n.val < 5000) :
    StableHlo.after hostOps1 V (Proc.devRef .tc main_v51) (ix2 r n)
      = V (Proc.devRef .tc main_v10) (ix2 ⟨n.val, hn⟩ ⟨r.val, hr⟩) := by
  after_reads_at
  rw [scatter_chans _ _ ?_ _ r hr n hn]
  · pointwise
  · refine pair_zero _ _ _ (fun i => ?_) (fun i => ?_)
    · after_reads_at
    · after_reads_at

theorem k_chans' (r : Fin 8) (hr : r.val < 6) (n : Fin 5120) (hn : n.val < 5000) :
    StableHlo.after hostOps1 V (Proc.devRef .tc main_v58) (ix2 r n)
      = V (Proc.devRef .tc main_arg2) (ix3 0 ⟨n.val, hn⟩ ⟨r.val, hr⟩) := by
  after_reads_at
  rw [scatter_chans _ _ ?_ _ r hr n hn]
  · pointwise
  · refine pair_zero _ _ _ (fun i => ?_) (fun i => ?_)
    · after_reads_at
    · after_reads_at

theorem k_scores (n : Fin 5120) (hn : n.val < 5000) :
    StableHlo.after hostOps1 V (Proc.devRef .tc main_v67) (ix2 0 n) = V (Proc.devRef .tc main_v1) (ix1 ⟨n.val, hn⟩) := by
  after_reads_at
  rw [scatter_row_miss, scatter_row_hit _ _ 0 ?_ ?_ _ n hn]
  · refine congrArg BitVec.toInt (pair_fst _ _ _ 0#32 fun i => ?_)
    after_reads_at
  · refine pair_snd _ _ _ 0#32 fun i => ?_
    after_reads_at
  · rw [show ∀ x y : IVec S1 32, ∀ h, (∀ i, x i = 1#32) → (concatenate S2 0 [⟨S1, x⟩, ⟨S1, y⟩] h (ix1 0)).toInt = 1 from
      fun x y h hx => congrArg BitVec.toInt (pair_fst x y h _ hx)]
    · decide
    · intro i
      after_reads_at

theorem k_mask (f : IVec S5000 1) (hf : ∀ i : Fin 5000, V (Proc.devRef .tc main_v35) (ix2 ⟨i.val / 1024, by omega⟩ ⟨i.val % 1024, by omega⟩)
      = FloatOps.uitofp (F := Ideal) .f32 (f (ix1 i)))
    (n : Fin 5120) (hn : n.val < 5000) :
    StableHlo.after hostOps1 V (Proc.devRef .tc main_v67) (ix2 1 n)
      = FloatOps.uitofp (F := Ideal) .f32 (unsorted (V (Proc.devRef .tc main_v9)) f (ix1 ⟨n.val, hn⟩)) := by
  after_reads_at
  rw [scatter_row_hit _ _ 1 ?_ ?_ _ n hn]
  · have hu : extractStridedSlice S5000 ![0] (fun i : S5120.Idx => V (Proc.devRef .tc main_v35)
        (ix2 ⟨(i 0).val / 1024, by have := (i 0).isLt; simp at this; omega⟩ ⟨(i 0).val % 1024, by omega⟩)) slices_S5120_S5000_0
        = fun k => FloatOps.uitofp (F := Ideal) .f32 (f k) := by
      funext i
      obtain ⟨k, rfl⟩ : ∃ k, i = ix1 k := ⟨i 0, ext1 rfl⟩
      pointwise
      exact hf k
    have hz : broadcastInDim S5000 ![] bcast_S_S5000 (constant (F := Ideal) S_ FTy.f32 0#32)
        = fun k => FloatOps.uitofp (F := Ideal) .f32 (broadcastInDim S5000 ![] bcast_S_S5000 (constantI S_ 1 0#1) k) := by
      funext i
      pointwise
      exact ((uitofp_flag 0#1).trans (ind_false (by decide))).symm
    refine (congrArg₂ (fun x u => Host.scatter scatter_S5000_S5000x1_S5000_n_0_0_1 (fun _ b => b) x
      (column (V (Proc.devRef .tc main_v9))) u (ix1 ⟨n.val, hn⟩)) hz hu).trans ?_
    exact congrFun (scatter_map _ (FloatOps.uitofp (F := Ideal) .f32) _ _ _) _
  · refine congrArg BitVec.toInt (pair_fst _ _ _ 1#32 fun i => ?_)
    after_reads_at
  · refine pair_snd _ _ _ 0#32 fun i => ?_
    after_reads_at

theorem k_map (l : Fin 128) (hl : l.val < 6) :
    StableHlo.after hostOps1 V (Proc.devRef .tc main_v74) (ix2 0 l)
      = V (Proc.devRef .tc main_arg3) (ix4 0 0 ⟨l.val / 3, by omega⟩ ⟨l.val % 3, by omega⟩) := by
  after_reads_at
  rw [scatter_map_row _ _ ?_ _ l hl]
  · rfl
  refine pair_zero _ _ _ (fun i => ?_) (fun i => ?_)
  · after_reads_at
  · after_reads_at

theorem k_out (n : Fin 5000) (k : Fin 11) :
    StableHlo.after hostOps2 V (Proc.devRef .tc main_v78) (ix3 0 n k)
      = V (Proc.devRef .tc main_v75) (ix2 ⟨k.val, by omega⟩ ⟨n.val, by omega⟩) := by
  after_reads_at

end Cert.Proof.Val
-- ==== Proof.Val.Launches.lean ====
/-
  What the two launches leave in their result arrays: each window is a whole array, so what the body leaves at the last
  grid point is the array.
-/
module

public import proofs.«01_k».proof.Proof.KI.Region
public import Idealize.ShloMosaic.Lib.Pipeline.ValueKit

@[expose] public section

noncomputable section

namespace Cert.Proof.Val

open Cert.KernelIdeal Cert.KernelIdeal.Gen Cert.Proof.KI
open Idealize.ShloMosaic Idealize.ShloMosaic.TcCoe
open Idealize.ShloMosaic.Pipeline (Dat Cfg Window)

variable {F : FTy → Type} [FloatOps F]
variable (V : (c : Dev nD) → (b : Ref sig .tc) → Buf (Elt F) ((c : Thread nD τ).loc b))

theorem start0 : ∀ a, (win0 0).index t0_0 a = 0 := by decide +kernel

theorem boxes_eq (c : Dev nD) : R0.boxes V c = V c main_v34 :=
  funext fun x => congrArg (V c main_v34) (funext fun a => Fin.ext ((win0 0).rect_emb_val_of_index_zero t0_0 a (start0 a) x))

theorem after_keep (c : Dev nD) (t : Fin (cfg0 (F := F)).N) : (R0.dat V c).after 1 t = keepAfter (R0.boxes V c) (t.val + 1) := rfl

theorem result0_eq (c : Dev nD) : R0.result V c = keepAfter (V c main_v34) 5 := by
  unfold R0.result
  refine (R0.dat V c).arrAt_eq_of_after_last 1 t0_4 (show Window.WholeAt (win0 1) t0_4 by decide +kernel) _ fun j => ?_
  rw [after_keep, boxes_eq, show t0_4.val + 1 = 5 from rfl]
  generalize keepAfter (V c main_v34) 5 = G
  blk_simp
  rfl

theorem start1_0 : ∀ a, (win1 0).index t1_0 a = 0 := by decide +kernel

theorem in0_eq (c : Dev nD) : R1.in0 V c = V c main_v51 :=
  funext fun x => congrArg (V c main_v51) (funext fun a => Fin.ext ((win1 0).rect_emb_val_of_index_zero t1_0 a (start1_0 a) x))

theorem start1_1 : ∀ a, (win1 1).index t1_0 a = 0 := by decide +kernel

theorem in1_eq (c : Dev nD) : R1.in1 V c = V c main_v58 :=
  funext fun x => congrArg (V c main_v58) (funext fun a => Fin.ext ((win1 1).rect_emb_val_of_index_zero t1_0 a (start1_1 a) x))

theorem start1_2 : ∀ a, (win1 2).index t1_0 a = 0 := by decide +kernel

theorem in2_eq (c : Dev nD) : R1.in2 V c = V c main_v67 :=
  funext fun x => congrArg (V c main_v67) (funext fun a => Fin.ext ((win1 2).rect_emb_val_of_index_zero t1_0 a (start1_2 a) x))

theorem start1_3 : ∀ a, (win1 3).index t1_0 a = 0 := by decide +kernel

theorem in3_eq (c : Dev nD) : R1.in3 V c = V c main_v74 :=
  funext fun x => congrArg (V c main_v74) (funext fun a => Fin.ext ((win1 3).rect_emb_val_of_index_zero t1_0 a (start1_3 a) x))

theorem after_out (c : Dev nD) (t : Fin (cfg1 (F := F)).N) : (R1.dat V c).after 4 t = R1.out V c := rfl

theorem result1_eq (c : Dev nD) : R1.result V c = postValue (V c main_v51) (V c main_v58) (V c main_v67) (V c main_v74) := by
  unfold R1.result
  refine (R1.dat V c).arrAt_eq_of_after_last 4 t1_0 (show Window.WholeAt (win1 4) t1_0 by decide +kernel) _ fun j => ?_
  rw [after_out, R1.out, in0_eq, in1_eq, in2_eq, in3_eq]
  generalize postValue (V c main_v51) (V c main_v58) (V c main_v67) (V c main_v74) = G
  blk_simp
  rfl

end Cert.Proof.Val

end
-- ==== Proof.Val.Post.lean ====
/-
  What the second launch writes, channel by channel, in the elements of the four arrays it reads: the score, the four
  sides of a box, its centre, and the four sides of the second box, each times the keep row. A coefficient of the map is
  read as the maximum of the lanes with all but one zeroed, which is the coefficient where it is not negative.
-/
module

public import proofs.«01_k».proof.Proof.Val.Nms

@[expose] public section

noncomputable section

namespace Cert.Proof.Val

open Cert.KernelIdeal Cert.KernelIdeal.Gen Cert.Proof.KI
open Idealize.ShloMosaic Idealize.ShloMosaic.Pointwise Idealize.ShloMosaic.TcCoe

theorem chans0_at (f : P0 Ideal) (r : Fin 8) (n : Fin 5120) : chans0 f (ix2 r n) = f (ix2 r n) := by
  refine congrArg f (funext fun a => ?_)
  match a with
  | ⟨0, _⟩ => exact Fin.ext (show 0 + 1 * r.val = r.val by omega)
  | ⟨1, _⟩ => exact Fin.ext (show 0 + 1 * n.val = n.val by omega)

theorem chans1_at (f : P1 Ideal) (r : Fin 8) (n : Fin 5120) : chans1 f (ix2 r n) = f (ix2 r n) := by
  refine congrArg f (funext fun a => ?_)
  match a with
  | ⟨0, _⟩ => exact Fin.ext (show 0 + 1 * r.val = r.val by omega)
  | ⟨1, _⟩ => exact Fin.ext (show 0 + 1 * n.val = n.val by omega)

theorem scoreRow_at (f : P2 Ideal) (n : Fin 5120) : scoreRow f (ix2 0 n) = f (ix2 0 n) := by
  refine congrArg f (funext fun a => ?_)
  match a with
  | ⟨0, _⟩ => exact Fin.ext rfl
  | ⟨1, _⟩ => exact Fin.ext (show 0 + 1 * n.val = n.val by omega)

theorem maskRow_at (f : P2 Ideal) (n : Fin 5120) : maskRow f (ix2 0 n) = f (ix2 1 n) := by
  refine congrArg f (funext fun a => ?_)
  match a with
  | ⟨0, _⟩ => exact Fin.ext rfl
  | ⟨1, _⟩ => exact Fin.ext (show 0 + 1 * n.val = n.val by omega)

theorem mapRow_at (f : P3 Ideal) (l : Fin 128) : mapRow f (ix2 0 l) = f (ix2 0 l) := by
  refine congrArg f (funext fun a => ?_)
  match a with
  | ⟨0, _⟩ => exact Fin.ext rfl
  | ⟨1, _⟩ => exact Fin.ext (show 0 + 1 * l.val = l.val by omega)

/-- The maximum of the lanes with all but lane `q` zeroed is lane `q`, where that is not negative. -/
theorem pick_at (a : S1x128.Idx → EReal) (c : BitVec 32) (q : Fin 128) (hc : c = BitVec.ofNat 32 q.val)
    (h : 0 ≤ a (ix2 0 q)) :
    Finset.fold max (Ideal.ofBits FTy.f32 4286578688#32)
      (fun x : Fin 128 => Scalar.select (IntOp.cmpi CmpIPredicate.eq (BitVec.ofNat 32 x.val) c) (a (ix2 0 x)) 0) Finset.univ
        = a (ix2 0 q) := by
  have e (x : Fin 128) : Scalar.select (IntOp.cmpi CmpIPredicate.eq (BitVec.ofNat 32 x.val) c) (a (ix2 0 x)) 0
      = if x = q then a (ix2 0 x) else 0 := by
    have hx : IntOp.cmpi CmpIPredicate.eq (BitVec.ofNat 32 x.val) c = 1 ↔ x = q := by
      rw [hc]
      exact (cmpi_eq_one x.val q.val (by omega) (by omega)).trans Fin.ext_iff.symm
    unfold Scalar.select
    by_cases e : x = q
    · rw [if_pos e, if_pos (hx.2 e)]
    · rw [if_neg e, if_neg fun w => e (hx.1 w)]
  simp only [e]
  rw [bot_eq]
  refine le_antisymm ?_ ?_
  · rw [Finset.fold_max_le]
    refine ⟨bot_le, fun x _ => ?_⟩
    split
    · next e => rw [e]
    · exact h
  · rw [Finset.le_fold_max]
    exact Or.inr ⟨q, Finset.mem_univ q, by rw [if_pos rfl]⟩

/-- Coordinate `r` of the point the map sends `(x 0 n, x 1 n)` to. -/
def centre (f : S8x5120.Idx → EReal) (p : S8x128.Idx → EReal) (r : Fin 2) (n : Fin 5120) : EReal :=
  p (ix2 0 ⟨3 * r.val, by omega⟩) * (f (ix2 0 n) * Ideal.ofBits FTy.f32 1124073472#32)
    + p (ix2 0 ⟨3 * r.val + 1, by omega⟩) * (f (ix2 1 n) * Ideal.ofBits FTy.f32 1124073472#32) + p (ix2 0 ⟨3 * r.val + 2, by omega⟩)

theorem post0 (f0 f1 f2 : S8x5120.Idx → EReal) (f3 : S8x128.Idx → EReal) (n : Fin 5120) : postValue (F := Ideal) f0 f1 f2 f3 (ix2 0 n) = Ideal.logistic (f2 (ix2 0 n)) * f2 (ix2 1 n) := by
  rw [← maskRow_at f2 n]
  unfold postValue postOf
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29]
  simp only [mapRow_at, chans0_at, chans1_at, scoreRow_at]

theorem post1 (f0 f1 f2 : S8x5120.Idx → EReal) (f3 : S8x128.Idx → EReal) (h : ∀ l : Fin 128, l.val < 6 → 0 ≤ f3 (ix2 0 l))
    (n : Fin 5120) : postValue (F := Ideal) f0 f1 f2 f3 (ix2 1 n) = (centre f0 f3 0 n - f0 (ix2 2 n) * Ideal.ofBits FTy.f32 1124073472#32 * f3 (ix2 0 0)) * f2 (ix2 1 n) := by
  have hp (l : Fin 128) (hl : l.val < 6) : (0 : EReal) ≤ mapRow (F := Ideal) f3 (ix2 0 l) := by rw [mapRow_at]; exact h l hl
  rw [← maskRow_at f2 n]
  unfold postValue postOf
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29]
  simp only [pick_at (mapRow (F := Ideal) f3) 0#32 0 rfl (hp 0 (by decide)), pick_at (mapRow (F := Ideal) f3) 1#32 1 rfl (hp 1 (by decide)),
    pick_at (mapRow (F := Ideal) f3) 2#32 2 rfl (hp 2 (by decide)), pick_at (mapRow (F := Ideal) f3) 3#32 3 rfl (hp 3 (by decide)),
    pick_at (mapRow (F := Ideal) f3) 4#32 4 rfl (hp 4 (by decide)), pick_at (mapRow (F := Ideal) f3) 5#32 5 rfl (hp 5 (by decide))]
  simp only [mapRow_at, chans0_at, chans1_at, scoreRow_at]
  rfl

theorem post2 (f0 f1 f2 : S8x5120.Idx → EReal) (f3 : S8x128.Idx → EReal) (h : ∀ l : Fin 128, l.val < 6 → 0 ≤ f3 (ix2 0 l))
    (n : Fin 5120) : postValue (F := Ideal) f0 f1 f2 f3 (ix2 2 n) = (centre f0 f3 1 n - f0 (ix2 3 n) * Ideal.ofBits FTy.f32 1124073472#32 * f3 (ix2 0 4)) * f2 (ix2 1 n) := by
  have hp (l : Fin 128) (hl : l.val < 6) : (0 : EReal) ≤ mapRow (F := Ideal) f3 (ix2 0 l) := by rw [mapRow_at]; exact h l hl
  rw [← maskRow_at f2 n]
  unfold postValue postOf
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29]
  simp only [pick_at (mapRow (F := Ideal) f3) 0#32 0 rfl (hp 0 (by decide)), pick_at (mapRow (F := Ideal) f3) 1#32 1 rfl (hp 1 (by decide)),
    pick_at (mapRow (F := Ideal) f3) 2#32 2 rfl (hp 2 (by decide)), pick_at (mapRow (F := Ideal) f3) 3#32 3 rfl (hp 3 (by decide)),
    pick_at (mapRow (F := Ideal) f3) 4#32 4 rfl (hp 4 (by decide)), pick_at (mapRow (F := Ideal) f3) 5#32 5 rfl (hp 5 (by decide))]
  simp only [mapRow_at, chans0_at, chans1_at, scoreRow_at]
  rfl

theorem post3 (f0 f1 f2 : S8x5120.Idx → EReal) (f3 : S8x128.Idx → EReal) (h : ∀ l : Fin 128, l.val < 6 → 0 ≤ f3 (ix2 0 l))
    (n : Fin 5120) : postValue (F := Ideal) f0 f1 f2 f3 (ix2 3 n) = (centre f0 f3 0 n + f0 (ix2 4 n) * Ideal.ofBits FTy.f32 1124073472#32 * f3 (ix2 0 0)) * f2 (ix2 1 n) := by
  have hp (l : Fin 128) (hl : l.val < 6) : (0 : EReal) ≤ mapRow (F := Ideal) f3 (ix2 0 l) := by rw [mapRow_at]; exact h l hl
  rw [← maskRow_at f2 n]
  unfold postValue postOf
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29]
  simp only [pick_at (mapRow (F := Ideal) f3) 0#32 0 rfl (hp 0 (by decide)), pick_at (mapRow (F := Ideal) f3) 1#32 1 rfl (hp 1 (by decide)),
    pick_at (mapRow (F := Ideal) f3) 2#32 2 rfl (hp 2 (by decide)), pick_at (mapRow (F := Ideal) f3) 3#32 3 rfl (hp 3 (by decide)),
    pick_at (mapRow (F := Ideal) f3) 4#32 4 rfl (hp 4 (by decide)), pick_at (mapRow (F := Ideal) f3) 5#32 5 rfl (hp 5 (by decide))]
  simp only [mapRow_at, chans0_at, chans1_at, scoreRow_at]
  rfl

theorem post4 (f0 f1 f2 : S8x5120.Idx → EReal) (f3 : S8x128.Idx → EReal) (h : ∀ l : Fin 128, l.val < 6 → 0 ≤ f3 (ix2 0 l))
    (n : Fin 5120) : postValue (F := Ideal) f0 f1 f2 f3 (ix2 4 n) = (centre f0 f3 1 n + f0 (ix2 5 n) * Ideal.ofBits FTy.f32 1124073472#32 * f3 (ix2 0 4)) * f2 (ix2 1 n) := by
  have hp (l : Fin 128) (hl : l.val < 6) : (0 : EReal) ≤ mapRow (F := Ideal) f3 (ix2 0 l) := by rw [mapRow_at]; exact h l hl
  rw [← maskRow_at f2 n]
  unfold postValue postOf
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29]
  simp only [pick_at (mapRow (F := Ideal) f3) 0#32 0 rfl (hp 0 (by decide)), pick_at (mapRow (F := Ideal) f3) 1#32 1 rfl (hp 1 (by decide)),
    pick_at (mapRow (F := Ideal) f3) 2#32 2 rfl (hp 2 (by decide)), pick_at (mapRow (F := Ideal) f3) 3#32 3 rfl (hp 3 (by decide)),
    pick_at (mapRow (F := Ideal) f3) 4#32 4 rfl (hp 4 (by decide)), pick_at (mapRow (F := Ideal) f3) 5#32 5 rfl (hp 5 (by decide))]
  simp only [mapRow_at, chans0_at, chans1_at, scoreRow_at]
  rfl

theorem post7 (f0 f1 f2 : S8x5120.Idx → EReal) (f3 : S8x128.Idx → EReal) (h : ∀ l : Fin 128, l.val < 6 → 0 ≤ f3 (ix2 0 l))
    (n : Fin 5120) : postValue (F := Ideal) f0 f1 f2 f3 (ix2 7 n) = (centre f1 f3 0 n - f1 (ix2 2 n) * Ideal.ofBits FTy.f32 1124073472#32 * f3 (ix2 0 0)) * f2 (ix2 1 n) := by
  have hp (l : Fin 128) (hl : l.val < 6) : (0 : EReal) ≤ mapRow (F := Ideal) f3 (ix2 0 l) := by rw [mapRow_at]; exact h l hl
  rw [← maskRow_at f2 n]
  unfold postValue postOf
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29]
  simp only [pick_at (mapRow (F := Ideal) f3) 0#32 0 rfl (hp 0 (by decide)), pick_at (mapRow (F := Ideal) f3) 1#32 1 rfl (hp 1 (by decide)),
    pick_at (mapRow (F := Ideal) f3) 2#32 2 rfl (hp 2 (by decide)), pick_at (mapRow (F := Ideal) f3) 3#32 3 rfl (hp 3 (by decide)),
    pick_at (mapRow (F := Ideal) f3) 4#32 4 rfl (hp 4 (by decide)), pick_at (mapRow (F := Ideal) f3) 5#32 5 rfl (hp 5 (by decide))]
  simp only [mapRow_at, chans0_at, chans1_at, scoreRow_at]
  rfl

theorem post8 (f0 f1 f2 : S8x5120.Idx → EReal) (f3 : S8x128.Idx → EReal) (h : ∀ l : Fin 128, l.val < 6 → 0 ≤ f3 (ix2 0 l))
    (n : Fin 5120) : postValue (F := Ideal) f0 f1 f2 f3 (ix2 8 n) = (centre f1 f3 1 n - f1 (ix2 3 n) * Ideal.ofBits FTy.f32 1124073472#32 * f3 (ix2 0 4)) * f2 (ix2 1 n) := by
  have hp (l : Fin 128) (hl : l.val < 6) : (0 : EReal) ≤ mapRow (F := Ideal) f3 (ix2 0 l) := by rw [mapRow_at]; exact h l hl
  rw [← maskRow_at f2 n]
  unfold postValue postOf
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29]
  simp only [pick_at (mapRow (F := Ideal) f3) 0#32 0 rfl (hp 0 (by decide)), pick_at (mapRow (F := Ideal) f3) 1#32 1 rfl (hp 1 (by decide)),
    pick_at (mapRow (F := Ideal) f3) 2#32 2 rfl (hp 2 (by decide)), pick_at (mapRow (F := Ideal) f3) 3#32 3 rfl (hp 3 (by decide)),
    pick_at (mapRow (F := Ideal) f3) 4#32 4 rfl (hp 4 (by decide)), pick_at (mapRow (F := Ideal) f3) 5#32 5 rfl (hp 5 (by decide))]
  simp only [mapRow_at, chans0_at, chans1_at, scoreRow_at]
  rfl

theorem post9 (f0 f1 f2 : S8x5120.Idx → EReal) (f3 : S8x128.Idx → EReal) (h : ∀ l : Fin 128, l.val < 6 → 0 ≤ f3 (ix2 0 l))
    (n : Fin 5120) : postValue (F := Ideal) f0 f1 f2 f3 (ix2 9 n) = (centre f1 f3 0 n + f1 (ix2 4 n) * Ideal.ofBits FTy.f32 1124073472#32 * f3 (ix2 0 0)) * f2 (ix2 1 n) := by
  have hp (l : Fin 128) (hl : l.val < 6) : (0 : EReal) ≤ mapRow (F := Ideal) f3 (ix2 0 l) := by rw [mapRow_at]; exact h l hl
  rw [← maskRow_at f2 n]
  unfold postValue postOf
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29]
  simp only [pick_at (mapRow (F := Ideal) f3) 0#32 0 rfl (hp 0 (by decide)), pick_at (mapRow (F := Ideal) f3) 1#32 1 rfl (hp 1 (by decide)),
    pick_at (mapRow (F := Ideal) f3) 2#32 2 rfl (hp 2 (by decide)), pick_at (mapRow (F := Ideal) f3) 3#32 3 rfl (hp 3 (by decide)),
    pick_at (mapRow (F := Ideal) f3) 4#32 4 rfl (hp 4 (by decide)), pick_at (mapRow (F := Ideal) f3) 5#32 5 rfl (hp 5 (by decide))]
  simp only [mapRow_at, chans0_at, chans1_at, scoreRow_at]
  rfl

theorem post10 (f0 f1 f2 : S8x5120.Idx → EReal) (f3 : S8x128.Idx → EReal) (h : ∀ l : Fin 128, l.val < 6 → 0 ≤ f3 (ix2 0 l))
    (n : Fin 5120) : postValue (F := Ideal) f0 f1 f2 f3 (ix2 10 n) = (centre f1 f3 1 n + f1 (ix2 5 n) * Ideal.ofBits FTy.f32 1124073472#32 * f3 (ix2 0 4)) * f2 (ix2 1 n) := by
  have hp (l : Fin 128) (hl : l.val < 6) : (0 : EReal) ≤ mapRow (F := Ideal) f3 (ix2 0 l) := by rw [mapRow_at]; exact h l hl
  rw [← maskRow_at f2 n]
  unfold postValue postOf
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29]
  simp only [pick_at (mapRow (F := Ideal) f3) 0#32 0 rfl (hp 0 (by decide)), pick_at (mapRow (F := Ideal) f3) 1#32 1 rfl (hp 1 (by decide)),
    pick_at (mapRow (F := Ideal) f3) 2#32 2 rfl (hp 2 (by decide)), pick_at (mapRow (F := Ideal) f3) 3#32 3 rfl (hp 3 (by decide)),
    pick_at (mapRow (F := Ideal) f3) 4#32 4 rfl (hp 4 (by decide)), pick_at (mapRow (F := Ideal) f3) 5#32 5 rfl (hp 5 (by decide))]
  simp only [mapRow_at, chans0_at, chans1_at, scoreRow_at]
  rfl

theorem post5 (f0 f1 f2 : S8x5120.Idx → EReal) (f3 : S8x128.Idx → EReal) (h : ∀ l : Fin 128, l.val < 6 → 0 ≤ f3 (ix2 0 l))
    (n : Fin 5120) : postValue (F := Ideal) f0 f1 f2 f3 (ix2 5 n) = centre f0 f3 0 n * f2 (ix2 1 n) := by
  have hp (l : Fin 128) (hl : l.val < 6) : (0 : EReal) ≤ mapRow (F := Ideal) f3 (ix2 0 l) := by rw [mapRow_at]; exact h l hl
  rw [← maskRow_at f2 n]
  unfold postValue postOf
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29]
  simp only [pick_at (mapRow (F := Ideal) f3) 0#32 0 rfl (hp 0 (by decide)), pick_at (mapRow (F := Ideal) f3) 1#32 1 rfl (hp 1 (by decide)),
    pick_at (mapRow (F := Ideal) f3) 2#32 2 rfl (hp 2 (by decide)), pick_at (mapRow (F := Ideal) f3) 3#32 3 rfl (hp 3 (by decide)),
    pick_at (mapRow (F := Ideal) f3) 4#32 4 rfl (hp 4 (by decide)), pick_at (mapRow (F := Ideal) f3) 5#32 5 rfl (hp 5 (by decide))]
  simp only [mapRow_at, chans0_at, chans1_at, scoreRow_at]
  rfl

theorem post6 (f0 f1 f2 : S8x5120.Idx → EReal) (f3 : S8x128.Idx → EReal) (h : ∀ l : Fin 128, l.val < 6 → 0 ≤ f3 (ix2 0 l))
    (n : Fin 5120) : postValue (F := Ideal) f0 f1 f2 f3 (ix2 6 n) = centre f0 f3 1 n * f2 (ix2 1 n) := by
  have hp (l : Fin 128) (hl : l.val < 6) : (0 : EReal) ≤ mapRow (F := Ideal) f3 (ix2 0 l) := by rw [mapRow_at]; exact h l hl
  rw [← maskRow_at f2 n]
  unfold postValue postOf
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29]
  simp only [pick_at (mapRow (F := Ideal) f3) 0#32 0 rfl (hp 0 (by decide)), pick_at (mapRow (F := Ideal) f3) 1#32 1 rfl (hp 1 (by decide)),
    pick_at (mapRow (F := Ideal) f3) 2#32 2 rfl (hp 2 (by decide)), pick_at (mapRow (F := Ideal) f3) 3#32 3 rfl (hp 3 (by decide)),
    pick_at (mapRow (F := Ideal) f3) 4#32 4 rfl (hp 4 (by decide)), pick_at (mapRow (F := Ideal) f3) 5#32 5 rfl (hp 5 (by decide))]
  simp only [mapRow_at, chans0_at, chans1_at, scoreRow_at]
  rfl

end Cert.Proof.Val
-- ==== Proof.Val.KOut.lean ====
/-
  What the kernel returns, channel by channel, as a function of its arguments.
-/
module

public import proofs.«01_k».proof.Proof.Val.KHost
public import proofs.«01_k».proof.Proof.Val.Launches
public import proofs.«01_k».proof.Proof.Val.Sweep
public import proofs.«01_k».proof.Proof.Val.Post

@[expose] public section

noncomputable section

namespace Cert.Proof.Val

open Cert.KernelIdeal Cert.KernelIdeal.Gen Cert.Proof.KI
open Idealize.ShloMosaic Idealize.ShloMosaic.TcCoe

variable (m : (ℓ : Loc nD τ sig) → Buf (Elt Ideal) ℓ) (c : Dev nD)

/-- The arguments as launched. -/
abbrev arg0 : S1x5000x2.Idx → EReal := V0 m c (Proc.devRef .tc main_arg0)
abbrev arg1 : S1x5000x6.Idx → EReal := V0 m c (Proc.devRef .tc main_arg1)
abbrev arg2 : S1x5000x6.Idx → EReal := V0 m c (Proc.devRef .tc main_arg2)
abbrev arg3 : S1x1x2x3.Idx → EReal := V0 m c (Proc.devRef .tc main_arg3)

theorem perm_at2 : V2 m c (Proc.devRef .tc main_v9) = permOf (keys (arg0 m c)) :=
  (k_perm (V1 m c)).trans (congrArg permOf (k_keys (V0 m c)))

theorem perm_at4 : W4 m c (Proc.devRef .tc main_v9) = permOf (keys (arg0 m c)) :=
  (W4_ne m c main_v9 (by decide)).trans ((V3_of m c main_v9 (by decide)).trans (perm_at2 m c))

theorem arg1_at2 : V2 m c (Proc.devRef .tc main_arg1) = arg1 m c :=
  (V2_of m c main_arg1 (by decide)).trans (V1_of m c main_arg1 (by decide))

theorem arg2_at4 : W4 m c (Proc.devRef .tc main_arg2) = arg2 m c :=
  (W4_ne m c main_arg2 (by decide)).trans ((V3_of m c main_arg2 (by decide)).trans
    ((V2_of m c main_arg2 (by decide)).trans (V1_of m c main_arg2 (by decide))))

theorem arg3_at4 : W4 m c (Proc.devRef .tc main_arg3) = arg3 m c :=
  (W4_ne m c main_arg3 (by decide)).trans ((V3_of m c main_arg3 (by decide)).trans
    ((V2_of m c main_arg3 (by decide)).trans (V1_of m c main_arg3 (by decide))))

theorem logit_at4 (n : Fin 5000) : W4 m c (Proc.devRef .tc main_v1) (ix1 n) = arg0 m c (ix3 0 n 1) :=
  (congrFun ((W4_ne m c main_v1 (by decide)).trans ((V3_of m c main_v1 (by decide)).trans (V2_of m c main_v1 (by decide)))) (ix1 n)).trans
    (k_logit (V0 m c) n)

theorem centres_at4 : W4 m c (Proc.devRef .tc main_v10) = fun i => arg1 m c (ix3 0 (i 0) (i 1)) := by
  refine (W4_ne m c main_v10 (by decide)).trans ((k_centres (V2 m c)).trans ?_)
  rw [arg1_at2]

theorem signs_at2 (i : S4.Idx) : V2 m c (Proc.devRef .tc main_cst) i = Ideal.ofBits .f32 (lit0 (S4.rowMajor i)) :=
  (congrFun (V2_of m c main_cst (by decide)) i).trans (k_cst (V0 m c) i)

/-- The launch's boxes are the sorted ones. -/
theorem boxAt_sorted (n : Fin 5000) : boxAt (V3 m c (Proc.devRef .tc main_v34)) n.val = sortedBox (arg0 m c) (arg1 m c) n := by
  funext a
  have hn := n.isLt
  refine (k_blocks (V2 m c) (signs_at2 m c) ⟨n.val / 1024 % 5, Nat.mod_lt _ (by decide)⟩ (a.castLE (by decide)) a.isLt
    ⟨n.val % 1024, Nat.mod_lt _ (by decide)⟩ (show 1024 * (n.val / 1024 % 5) + n.val % 1024 < 5000 by omega)).trans ?_
  rw [perm_at2, arg1_at2]
  exact congrArg (orderedOf (corners (arg1 m c)) (permOf (keys (arg0 m c))))
    (ext2 ⟨show 1024 * (n.val / 1024 % 5) + n.val % 1024 = n.val by omega, rfl⟩)

theorem mask_at4 (n : Fin 5000) : W4 m c (Proc.devRef .tc main_v35) (ix2 ⟨n.val / 1024, by omega⟩ ⟨n.val % 1024, by omega⟩)
    = FloatOps.uitofp (F := Ideal) .f32 (flags (arg0 m c) (arg1 m c) (ix1 n)) := by
  have hn := n.isLt
  refine (congrFun ((W4_out m c).trans (result0_eq _ c)) _).trans ((keepAfter_at _ _ _).trans ?_)
  rw [uitofp_flag]
  refine ind_congr (Iff.trans ?_ (flags_at _ _ n).symm)
  rw [show 1024 * (n.val / 1024) + n.val % 1024 = n.val by omega]
  refine kept_congr 5000 (fun i hi j hj => ?_) n.val hn
  have h : hits (V3 m c (Proc.devRef .tc main_v34)) i j
      ↔ hit (sortedBox (arg0 m c) (arg1 m c) ⟨i, hi⟩) (sortedBox (arg0 m c) (arg1 m c) ⟨j, hj⟩) := by
    rw [← boxAt_sorted, ← boxAt_sorted]; rfl
  exact h.trans ⟨fun h => ⟨hi, hj, h⟩, fun ⟨_, _, h⟩ => h⟩

/-- A column of the padded arrays. -/
abbrev padded (n : Fin 5000) : Fin 5120 := ⟨n.val, by omega⟩

theorem keep_at5 (n : Fin 5000) : W5 m c (Proc.devRef .tc main_v67) (ix2 1 (padded n)) = keepOf (arg0 m c) (arg1 m c) n := by
  refine (k_mask (W4 m c) (flags (arg0 m c) (arg1 m c)) (mask_at4 m c) (padded n) n.isLt).trans ?_
  rw [perm_at4]
  rfl

theorem score_at5 (n : Fin 5000) : W5 m c (Proc.devRef .tc main_v67) (ix2 0 (padded n)) = arg0 m c (ix3 0 n 1) :=
  (k_scores (W4 m c) (padded n) n.isLt).trans (logit_at4 m c n)

theorem boxes_at5 (r : Fin 8) (hr : r.val < 6) (n : Fin 5000) :
    W5 m c (Proc.devRef .tc main_v51) (ix2 r (padded n)) = arg1 m c (ix3 0 n ⟨r.val, hr⟩) :=
  (k_chans (W4 m c) r hr (padded n) n.isLt).trans (congrFun (centres_at4 m c) _)

theorem pre_at5 (r : Fin 8) (hr : r.val < 6) (n : Fin 5000) :
    W5 m c (Proc.devRef .tc main_v58) (ix2 r (padded n)) = arg2 m c (ix3 0 n ⟨r.val, hr⟩) :=
  (k_chans' (W4 m c) r hr (padded n) n.isLt).trans (congrFun (arg2_at4 m c) _)

theorem map_at5 (l : Fin 128) (hl : l.val < 6) :
    W5 m c (Proc.devRef .tc main_v74) (ix2 0 l) = arg3 m c (ix4 0 0 ⟨l.val / 3, by omega⟩ ⟨l.val % 3, by omega⟩) :=
  (k_map (W4 m c) l hl).trans (congrFun (arg3_at4 m c) _)

/-- The second launch's result, read where the program reads it. -/
theorem out_at (n : Fin 5000) (k : Fin 11) : final m c (Proc.devRef .tc main_v78) (ix3 0 n k)
    = postValue (F := Ideal) (W5 m c (Proc.devRef .tc main_v51)) (W5 m c (Proc.devRef .tc main_v58)) (W5 m c (Proc.devRef .tc main_v67))
        (W5 m c (Proc.devRef .tc main_v74)) (ix2 ⟨k.val, by omega⟩ (padded n)) :=
  (k_out (W6 m c) n k).trans (congrFun ((W6_out m c).trans (result1_eq _ c)) _)

/-- The centre as the second launch computes it. -/
theorem centre_at (f : S8x5120.Idx → EReal) (p : S8x128.Idx → EReal) (x : S1x5000x6.Idx → EReal) (a : S1x1x2x3.Idx → EReal)
    (n : Fin 5000) (hf : ∀ (r : Fin 8) (hr : r.val < 6), f (ix2 r (padded n)) = x (ix3 0 n ⟨r.val, hr⟩))
    (hp : ∀ (l : Fin 128) (hl : l.val < 6), p (ix2 0 l) = a (ix4 0 0 ⟨l.val / 3, by omega⟩ ⟨l.val % 3, by omega⟩)) (r : Fin 2) :
    centre f p r (padded n) = mapped x a r n := by
  have e (k : ℕ) (hk : k < 3) : p (ix2 0 ⟨3 * r.val + k, by omega⟩) = a (ix4 0 0 r ⟨k, hk⟩) := by
    rw [hp _ (show 3 * r.val + k < 6 by omega)]
    have h1 : (⟨(3 * r.val + k) / 3, by omega⟩ : Fin 2) = r := Fin.ext (show (3 * r.val + k) / 3 = r.val by omega)
    have h2 : (⟨(3 * r.val + k) % 3, by omega⟩ : Fin 3) = ⟨k, hk⟩ := Fin.ext (show (3 * r.val + k) % 3 = k by omega)
    rw [h1, h2]
  unfold centre mapped
  rw [hf 0 (by decide), hf 1 (by decide)]
  exact congrArg₂ (· + ·) (congrArg₂ (· + ·) (congrArg (· * _) (e 0 (by decide))) (congrArg (· * _) (e 1 (by decide)))) (e 2 (by decide))

variable (h3 : ∀ i, 0 ≤ arg3 m c i) (n : Fin 5000)

include h3 in
theorem map_nonneg (l : Fin 128) (hl : l.val < 6) : (0 : EReal) ≤ W5 m c (Proc.devRef .tc main_v74) (ix2 0 l) := by
  rw [map_at5 m c l hl]
  exact h3 _

theorem out0 : final m c (Proc.devRef .tc main_v78) (ix3 0 n 0) = Ideal.logistic (arg0 m c (ix3 0 n 1)) * keepOf (arg0 m c) (arg1 m c) n := by
  refine (out_at m c n 0).trans ?_
  refine (post0 _ _ _ _ (padded n)).trans ?_
  rw [keep_at5, score_at5]

include h3 in
theorem out1 : final m c (Proc.devRef .tc main_v78) (ix3 0 n 1) = left (arg1 m c) (arg3 m c) n * keepOf (arg0 m c) (arg1 m c) n := by
  refine (out_at m c n 1).trans ?_
  refine (post1 _ _ _ _ (map_nonneg m c h3) (padded n)).trans ?_
  rw [keep_at5, centre_at _ _ (arg1 m c) (arg3 m c) n (fun r hr => boxes_at5 m c r hr n) (map_at5 m c), boxes_at5 m c 2 (by decide) n, map_at5 m c 0 (by decide)]
  rfl

include h3 in
theorem out2 : final m c (Proc.devRef .tc main_v78) (ix3 0 n 2) = top (arg1 m c) (arg3 m c) n * keepOf (arg0 m c) (arg1 m c) n := by
  refine (out_at m c n 2).trans ?_
  refine (post2 _ _ _ _ (map_nonneg m c h3) (padded n)).trans ?_
  rw [keep_at5, centre_at _ _ (arg1 m c) (arg3 m c) n (fun r hr => boxes_at5 m c r hr n) (map_at5 m c), boxes_at5 m c 3 (by decide) n, map_at5 m c 4 (by decide)]
  rfl

include h3 in
theorem out3 : final m c (Proc.devRef .tc main_v78) (ix3 0 n 3) = right (arg1 m c) (arg3 m c) n * keepOf (arg0 m c) (arg1 m c) n := by
  refine (out_at m c n 3).trans ?_
  refine (post3 _ _ _ _ (map_nonneg m c h3) (padded n)).trans ?_
  rw [keep_at5, centre_at _ _ (arg1 m c) (arg3 m c) n (fun r hr => boxes_at5 m c r hr n) (map_at5 m c), boxes_at5 m c 4 (by decide) n, map_at5 m c 0 (by decide)]
  rfl

include h3 in
theorem out4 : final m c (Proc.devRef .tc main_v78) (ix3 0 n 4) = bottom (arg1 m c) (arg3 m c) n * keepOf (arg0 m c) (arg1 m c) n := by
  refine (out_at m c n 4).trans ?_
  refine (post4 _ _ _ _ (map_nonneg m c h3) (padded n)).trans ?_
  rw [keep_at5, centre_at _ _ (arg1 m c) (arg3 m c) n (fun r hr => boxes_at5 m c r hr n) (map_at5 m c), boxes_at5 m c 5 (by decide) n, map_at5 m c 4 (by decide)]
  rfl

include h3 in
theorem out7 : final m c (Proc.devRef .tc main_v78) (ix3 0 n 7) = left (arg2 m c) (arg3 m c) n * keepOf (arg0 m c) (arg1 m c) n := by
  refine (out_at m c n 7).trans ?_
  refine (post7 _ _ _ _ (map_nonneg m c h3) (padded n)).trans ?_
  rw [keep_at5, centre_at _ _ (arg2 m c) (arg3 m c) n (fun r hr => pre_at5 m c r hr n) (map_at5 m c), pre_at5 m c 2 (by decide) n, map_at5 m c 0 (by decide)]
  rfl

include h3 in
theorem out8 : final m c (Proc.devRef .tc main_v78) (ix3 0 n 8) = top (arg2 m c) (arg3 m c) n * keepOf (arg0 m c) (arg1 m c) n := by
  refine (out_at m c n 8).trans ?_
  refine (post8 _ _ _ _ (map_nonneg m c h3) (padded n)).trans ?_
  rw [keep_at5, centre_at _ _ (arg2 m c) (arg3 m c) n (fun r hr => pre_at5 m c r hr n) (map_at5 m c), pre_at5 m c 3 (by decide) n, map_at5 m c 4 (by decide)]
  rfl

include h3 in
theorem out9 : final m c (Proc.devRef .tc main_v78) (ix3 0 n 9) = right (arg2 m c) (arg3 m c) n * keepOf (arg0 m c) (arg1 m c) n := by
  refine (out_at m c n 9).trans ?_
  refine (post9 _ _ _ _ (map_nonneg m c h3) (padded n)).trans ?_
  rw [keep_at5, centre_at _ _ (arg2 m c) (arg3 m c) n (fun r hr => pre_at5 m c r hr n) (map_at5 m c), pre_at5 m c 4 (by decide) n, map_at5 m c 0 (by decide)]
  rfl

include h3 in
theorem out10 : final m c (Proc.devRef .tc main_v78) (ix3 0 n 10) = bottom (arg2 m c) (arg3 m c) n * keepOf (arg0 m c) (arg1 m c) n := by
  refine (out_at m c n 10).trans ?_
  refine (post10 _ _ _ _ (map_nonneg m c h3) (padded n)).trans ?_
  rw [keep_at5, centre_at _ _ (arg2 m c) (arg3 m c) n (fun r hr => pre_at5 m c r hr n) (map_at5 m c), pre_at5 m c 5 (by decide) n, map_at5 m c 4 (by decide)]
  rfl

include h3 in
theorem out5 : final m c (Proc.devRef .tc main_v78) (ix3 0 n 5) = mapped (arg1 m c) (arg3 m c) 0 n * keepOf (arg0 m c) (arg1 m c) n := by
  refine (out_at m c n 5).trans ?_
  refine (post5 _ _ _ _ (map_nonneg m c h3) (padded n)).trans ?_
  rw [keep_at5, centre_at _ _ (arg1 m c) (arg3 m c) n (fun r hr => boxes_at5 m c r hr n) (map_at5 m c)]

include h3 in
theorem out6 : final m c (Proc.devRef .tc main_v78) (ix3 0 n 6) = mapped (arg1 m c) (arg3 m c) 1 n * keepOf (arg0 m c) (arg1 m c) n := by
  refine (out_at m c n 6).trans ?_
  refine (post6 _ _ _ _ (map_nonneg m c h3) (padded n)).trans ?_
  rw [keep_at5, centre_at _ _ (arg1 m c) (arg3 m c) n (fun r hr => boxes_at5 m c r hr n) (map_at5 m c)]

end Cert.Proof.Val
-- ==== Proof.Val.Loop.lean ====
/-
  The reference's counted loop: after `k` trips a box is still kept exactly when no kept box before the `k`-th strikes it.
-/
module

public import proofs.«01_k».proof.Proof.RI.Run
public import proofs.«01_k».proof.Proof.Val.Nms
public import Idealize.ShloMosaic.Lib.Pointwise
public import Idealize.ShloMosaic.Lib.DynamicIndex
public import Idealize.ShloMosaic.Lib.IdealHost

@[expose] public section

noncomputable section

namespace Cert.Proof.Val

open Cert.ReferenceIdeal Cert.ReferenceIdeal.Gen Cert.ReferenceIdeal.Value Cert.Proof.RI
open Idealize.ShloMosaic Idealize.ShloMosaic.Pointwise Idealize.ShloMosaic.TcCoe

theorem slice1 {α : Type} (k : ℕ) (hk : k < 5000) (x : S5000.Idx → α) (st : Fin 1 → Int) (h : st 0 = k)
    (hf : S5000.Slices (fun _ => 0) S1) (hc : S1.ShapeCasts S_) (i : S_.Idx) :
    shapeCast S_ (Host.dynamicSlice S1 x st hf) hc i = x (ix1 ⟨k, hk⟩) := by
  have ho : S5000.Slices ![k] S1 := ⟨rfl, fun a => by
    match a with
    | ⟨0, _⟩ => show k + 1 ≤ 5000; omega⟩
  rw [Host.dynamicSlice_eq_extractStridedSlice S1 x st ![k] hf ho (fun a => by
    match a with
    | ⟨0, _⟩ => exact h)]
  pointwise

theorem slice2 {α : Type} (k : ℕ) (hk : k < 5000) (x : S5000x5000.Idx → α) (st : Fin 2 → Int) (h0 : st 0 = k) (h1 : st 1 = 0)
    (hf : S5000x5000.Slices (fun _ => 0) S1x5000) (hc : S1x5000.ShapeCasts S5000) (n : Fin 5000) :
    shapeCast S5000 (Host.dynamicSlice S1x5000 x st hf) hc (ix1 n) = x (ix2 ⟨k, hk⟩ n) := by
  have ho : S5000x5000.Slices ![k, 0] S1x5000 := ⟨rfl, fun a => by
    match a with
    | ⟨0, _⟩ => show k + 1 ≤ 5000; omega
    | ⟨1, _⟩ => show 0 + 5000 ≤ 5000; omega⟩
  rw [Host.dynamicSlice_eq_extractStridedSlice S1x5000 x st ![k, 0] hf ho (fun a => by
    match a with
    | ⟨0, _⟩ => exact h0
    | ⟨1, _⟩ => exact h1)]
  pointwise

theorem not_eq_one (b : BitVec 1) : ~~~b = 1#1 ↔ ¬ b = 1#1 := by revert b; decide

theorem select_zero_eq_one (c b : BitVec 1) : Scalar.select c b 0#1 = 1#1 ↔ c = 1#1 ∧ b = 1#1 := by revert c b; decide

/-- One trip: box `n` stays unless box `k` is kept, lies before it and strikes it. -/
theorem step4_at (V : Valuation τ sig (Elt Ideal)) (k : ℕ) (hk : k < 5000) (n : Fin 5000)
    (h3 : V (Proc.devRef .tc main_v78_3) = fun _ => BitVec.ofNat 32 k)
    (h1 : V (Proc.devRef .tc main_v78_1) (ix1 n) = BitVec.ofNat 32 n.val) :
    step_main_v78_4 V (ix1 n) = 1#1 ↔ V (Proc.devRef .tc main_v78_4) (ix1 n) = 1#1
      ∧ ¬ (V (Proc.devRef .tc main_v78_4) (ix1 ⟨k, hk⟩) = 1#1
        ∧ (Ideal.ofBits .f32 0x3F000000#32 : EReal) < V (Proc.devRef .tc main_v78_0) (ix2 ⟨k, hk⟩ n) ∧ k < n.val) := by
  unfold step_main_v78_4 res_main_while0b_v180
  rw [h3]
  revert h1
  generalize V (Proc.devRef .tc main_v78_4) = K
  generalize V (Proc.devRef .tc main_v78_0) = I
  generalize V (Proc.devRef .tc main_v78_1) = J
  intro h1
  show IntOp.andi (K (ix1 n)) (~~~ (Scalar.select (shapeCast S_ _ _ _) (IntOp.andi
    (Ideal.cmp .ogt (shapeCast S5000 _ _ (ix1 n)) _) (IntOp.cmpi .sgt (J (ix1 n)) (BitVec.ofNat 32 k))) 0#1)) = 1#1 ↔ _
  rw [slice1 k hk K _ ?_, slice2 k hk I _ ?_ ?_, h1, andi_eq_one, not_eq_one, select_zero_eq_one, andi_eq_one]
  rotate_left
  · exact toInt_wrap_ofNat k (by omega)
  · rfl
  · exact toInt_wrap_ofNat k (by omega)
  have hc : IntOp.cmpi .sgt (BitVec.ofNat 32 n.val) (BitVec.ofNat 32 k) = 1#1 ↔ k < n.val :=
    cmpi_slt_one k n.val (by omega) (by omega)
  have hg (x y : EReal) : Ideal.cmp .ogt x y = 1#1 ↔ y < x := by
    show BitVec.ofBool (decide (y < x)) = 1#1 ↔ _
    rw [ofBool_eq_one, decide_eq_true_iff]
  rw [hc, hg]
  rfl

/-- Box `i` strikes box `j`: their ratio is above one half. -/
def strikes (I : S5000x5000.Idx → EReal) (i j : ℕ) : Prop :=
  ∃ (hi : i < 5000) (hj : j < 5000), (Ideal.ofBits .f32 0x3F000000#32 : EReal) < I (ix2 ⟨i, hi⟩ ⟨j, hj⟩)

theorem loop_at (E : Valuation τ sig (Elt Ideal)) (h3 : E (Proc.devRef .tc main_v78_3) = fun _ => 0#32)
    (h1 : ∀ n : Fin 5000, E (Proc.devRef .tc main_v78_1) (ix1 n) = BitVec.ofNat 32 n.val)
    (h4 : ∀ n : Fin 5000, E (Proc.devRef .tc main_v78_4) (ix1 n) = 1#1) :
    ∀ k ≤ 5000, STEP^[k] E (Proc.devRef .tc main_v78_0) = E (Proc.devRef .tc main_v78_0)
      ∧ STEP^[k] E (Proc.devRef .tc main_v78_1) = E (Proc.devRef .tc main_v78_1)
      ∧ (STEP^[k] E (Proc.devRef .tc main_v78_3) = fun _ => BitVec.ofNat 32 k)
      ∧ ∀ n : Fin 5000, STEP^[k] E (Proc.devRef .tc main_v78_4) (ix1 n) = 1#1
        ↔ ∀ j < k, j < n.val → kept (strikes (E (Proc.devRef .tc main_v78_0))) j
          → ¬ strikes (E (Proc.devRef .tc main_v78_0)) j n.val := by
  intro k
  induction k with
  | zero => exact fun _ => ⟨rfl, rfl, h3, fun n => ⟨fun _ j hj => absurd hj (Nat.not_lt_zero j), fun _ => h4 n⟩⟩
  | succ k ih =>
    intro hk
    obtain ⟨i0, i1, i3, i4⟩ := ih (by omega)
    rw [Function.iterate_succ_apply']
    refine ⟨(STEP_main_v78_0 _).trans i0, (STEP_main_v78_1 _).trans i1, ?_, fun n => ?_⟩
    · rw [STEP_main_v78_3]
      unfold step_main_v78_3
      rw [i3]
      funext i
      show BitVec.ofNat 32 k + 1#32 = BitVec.ofNat 32 (k + 1)
      rw [BitVec.ofNat_add]
    · rw [STEP_main_v78_4, step4_at _ k (by omega) n i3 (by rw [i1]; exact h1 n), i4, i4, i0]
      constructor
      · rintro ⟨a, b⟩ j hj hjn hkj ⟨p, q, r⟩
        rcases Nat.lt_succ_iff_lt_or_eq.1 hj with h | rfl
        · exact a j h hjn hkj ⟨p, q, r⟩
        · exact b ⟨fun i hi _ => ((kept_iff _ _).1 hkj) i hi, r, hjn⟩
      · refine fun a => ⟨fun j hj => a j (by omega), ?_⟩
        rintro ⟨b, r, hkn⟩
        exact a k (by omega) hkn ((kept_iff _ _).2 fun j hj => b j hj hj) ⟨by omega, n.isLt, r⟩

/-- After all 5000 trips. -/
theorem loop_end (E : Valuation τ sig (Elt Ideal)) (h3 : E (Proc.devRef .tc main_v78_3) = fun _ => 0#32)
    (h1 : ∀ n : Fin 5000, E (Proc.devRef .tc main_v78_1) (ix1 n) = BitVec.ofNat 32 n.val)
    (h4 : ∀ n : Fin 5000, E (Proc.devRef .tc main_v78_4) (ix1 n) = 1#1) (n : Fin 5000) :
    STEP^[5000] E (Proc.devRef .tc main_v78_4) (ix1 n) = 1#1 ↔ kept (strikes (E (Proc.devRef .tc main_v78_0))) n.val := by
  rw [(loop_at E h3 h1 h4 5000 le_rfl).2.2.2 n, kept_iff]
  exact ⟨fun h j hj => h j (by omega) hj, fun h j _ hj => h j hj⟩

end Cert.Proof.Val
-- ==== Proof.Val.RHost.lean ====
/-
  What the reference's host operations hold before its loop: the sort order, the boxes' corners in that order, and the
  ratio of every two of them.
-/
module

public import proofs.«01_k».proof.Proof.RI.Run
public import proofs.«01_k».proof.Proof.Val.Spec
public import proofs.«01_k».proof.Proof.Val.Loop
public import Idealize.ShloMosaic.Lib.Pointwise
public import Idealize.ShloMosaic.Lib.StableHlo.ReadAt
public import Idealize.ShloMosaic.Lib.StableHlo.RunRead
public import Idealize.ShloMosaic.Lib.IdealHost

@[expose] public section

noncomputable section

namespace Cert.Proof.Val

open Cert.ReferenceIdeal Cert.ReferenceIdeal.Gen Cert.ReferenceIdeal.Value Cert.Proof.RI
open Idealize.ShloMosaic Idealize.ShloMosaic.Pointwise Idealize.ShloMosaic.TcCoe

variable (V : Valuation τ sig (Elt Ideal))

theorem r_keys : StableHlo.after hostOps0 V (Proc.devRef .tc main_v20) = keys (V (Proc.devRef .tc main_arg0)) := by
  funext i
  obtain ⟨n, rfl⟩ : ∃ n, i = ix1 n := ⟨i 0, ext1 rfl⟩
  after_reads_at
  rfl

theorem r_score (n : Fin 5000) : StableHlo.after hostOps0 V (Proc.devRef .tc main_v7) (ix2 0 n)
    = Ideal.logistic (V (Proc.devRef .tc main_arg0) (ix3 0 n 1)) := by
  after_reads_at
  rw [bot_eq]
  show max (Ideal.logistic (V (Proc.devRef .tc main_arg0) (ix3 0 n 1))) ⊥ = _
  exact max_eq_left bot_le

theorem r_corners : StableHlo.after hostOps0 V (Proc.devRef .tc main_v17) = corners (V (Proc.devRef .tc main_arg1)) := by
  funext i
  obtain ⟨n, c, rfl⟩ : ∃ n c, i = ix2 n c := ⟨i 0, i 1, ext2 ⟨rfl, rfl⟩⟩
  after_reads_at
  rfl

theorem r_signs (i : S4.Idx) : StableHlo.after hostOps0 V (Proc.devRef .tc main_cst) i = Ideal.ofBits .f32 (lit0 (S4.rowMajor i)) := by
  after_reads_at

theorem r_size (i : S2.Idx) : StableHlo.after hostOps0 V (Proc.devRef .tc main_cst_0) i = Ideal.ofBits .f32 0x43000000#32 := by
  after_reads_at

theorem r_perm : StableHlo.after hostOps0_1 V (Proc.devRef .tc main_v21) = permOf (V (Proc.devRef .tc main_v20)) := by
  after_reads_simp
  rfl

theorem r_left (n : Fin 5000) : StableHlo.after hostOps0_2 V (Proc.devRef .tc main_v30) (ix1 n)
    = orderedOf (V (Proc.devRef .tc main_v17)) (V (Proc.devRef .tc main_v21)) (ix2 n 0) := by
  after_reads_at
  rfl

theorem r_top (n : Fin 5000) : StableHlo.after hostOps0_2 V (Proc.devRef .tc main_v32) (ix1 n)
    = orderedOf (V (Proc.devRef .tc main_v17)) (V (Proc.devRef .tc main_v21)) (ix2 n 1) := by
  after_reads_at
  rfl

theorem r_right (n : Fin 5000) : StableHlo.after hostOps0_2 V (Proc.devRef .tc main_v34) (ix1 n)
    = orderedOf (V (Proc.devRef .tc main_v17)) (V (Proc.devRef .tc main_v21)) (ix2 n 2) := by
  after_reads_at
  rfl

theorem r_bottom (n : Fin 5000) : StableHlo.after hostOps0_2 V (Proc.devRef .tc main_v36) (ix1 n)
    = orderedOf (V (Proc.devRef .tc main_v17)) (V (Proc.devRef .tc main_v21)) (ix2 n 3) := by
  after_reads_at
  rfl

theorem r_width (n : Fin 5000) : StableHlo.after hostOps0_2 V (Proc.devRef .tc main_v37) (ix1 n)
    = orderedOf (V (Proc.devRef .tc main_v17)) (V (Proc.devRef .tc main_v21)) (ix2 n 2)
      - orderedOf (V (Proc.devRef .tc main_v17)) (V (Proc.devRef .tc main_v21)) (ix2 n 0) := by
  after_reads_at
  rfl

theorem r_zero (i : S_.Idx) : StableHlo.after hostOps0_2 V (Proc.devRef .tc main_cst_5) i = (0 : EReal) := by
  after_reads_at

theorem r_iota (n : Fin 5000) : StableHlo.after hostOps0_10 V (Proc.devRef .tc main_v78_1) (ix1 n) = BitVec.ofNat 32 n.val := by
  after_reads_at
  rfl

theorem r_ones (n : Fin 5000) : StableHlo.after hostOps0_10 V (Proc.devRef .tc main_v78_4) (ix1 n) = 1#1 := by
  after_reads_at
  rfl

theorem r_start : StableHlo.after hostOps0_10 V (Proc.devRef .tc main_v78_3) = fun _ => 0#32 := by
  funext i
  after_reads_at
  rfl

theorem r_ratio (q : Fin 5000 → Box) (h30 : ∀ n, V (Proc.devRef .tc main_v30) (ix1 n) = q n 0)
    (h32 : ∀ n, V (Proc.devRef .tc main_v32) (ix1 n) = q n 1) (h34 : ∀ n, V (Proc.devRef .tc main_v34) (ix1 n) = q n 2)
    (h36 : ∀ n, V (Proc.devRef .tc main_v36) (ix1 n) = q n 3) (h37 : ∀ n, V (Proc.devRef .tc main_v37) (ix1 n) = q n 2 - q n 0)
    (h0 : ∀ i, V (Proc.devRef .tc main_cst_5) i = (0 : EReal)) (i j : Fin 5000) :
    StableHlo.after hostOps0_10 (StableHlo.after hostOps0_9 (StableHlo.after hostOps0_8 (StableHlo.after hostOps0_7
      (StableHlo.after hostOps0_6 (StableHlo.after hostOps0_5 (StableHlo.after hostOps0_4 (StableHlo.after hostOps0_3 V)))))))
      (Proc.devRef .tc main_v78_0) (ix2 i j) = Ideal.div (overlap (q i) (q j)) (union (q i) (q j)) := by
  after_reads_at
  simp only [id_eq]
  pointwise
  simp only [h30, h32, h34, h36, h37, h0]
  unfold union area overlap eps
  simp only [max_comm (0 : EReal)]

end Cert.Proof.Val
-- ==== Proof.Val.RTail.lean ====
/-
  What the reference's operations after its loop write, channel by channel.
-/
module

public import proofs.«01_k».proof.Proof.RI.Run
public import proofs.«01_k».proof.Proof.Val.Spec
public import Idealize.ShloMosaic.Lib.Pointwise
public import Idealize.ShloMosaic.Lib.StableHlo.ReadAt
public import Idealize.ShloMosaic.Lib.IdealHost

@[expose] public section

noncomputable section

namespace Cert.Proof.Val

open Cert.ReferenceIdeal Cert.ReferenceIdeal.Gen Cert.ReferenceIdeal.Value Cert.Proof.RI
open Idealize.ShloMosaic Idealize.ShloMosaic.Pointwise Idealize.ShloMosaic.TcCoe

theorem minus_form (p c0 c1 a0 a1 a2 s : EReal) (hs : s = ((-1 : ℝ) : EReal)) :
    p * s + (c0 * a0 + c1 * a1 + a2) = a0 * c0 + a1 * c1 + a2 - p := by
  rw [hs, mul_comm c0, mul_comm c1, add_comm, sub_eq_add_neg, EReal.coe_neg, EReal.coe_one, mul_neg, mul_one]

theorem plus_form (p c0 c1 a0 a1 a2 s : EReal) (hs : s = ((1 : ℝ) : EReal)) :
    p * s + (c0 * a0 + c1 * a1 + a2) = a0 * c0 + a1 * c1 + a2 + p := by
  rw [hs, mul_comm c0, mul_comm c1, add_comm, EReal.coe_one, mul_one]

theorem centre_form (c0 c1 a0 a1 a2 : EReal) : c0 * a0 + c1 * a1 + a2 = a0 * c0 + a1 * c1 + a2 := by
  rw [mul_comm c0, mul_comm c1]

variable (V : Valuation τ sig (Elt Ideal)) (hc : ∀ i, V (Proc.devRef .tc main_cst) i = Ideal.ofBits .f32 (lit0 (S4.rowMajor i)))
  (hB : ∀ i, V (Proc.devRef .tc main_cst_0) i = Ideal.ofBits .f32 0x43000000#32) (n : Fin 5000)

/-- The keep flag as the tail reads it. -/
abbrev tailKeep : EReal :=
  FloatOps.uitofp (F := Ideal) .f32 (unsorted (V (Proc.devRef .tc main_v21)) (V (Proc.devRef .tc main_v78_4)) (ix1 n))

theorem tail0 (s : EReal) (hs : V (Proc.devRef .tc main_v7) (ix2 0 n) = s) : StableHlo.after hostOps0_11 V (Proc.devRef .tc main_v178) (ix3 0 n 0)
    = s * tailKeep V n := by
  unfold tailKeep
  after_reads_at
  generalize hk : Host.scatter _ _ _ _ _ _ = K
  have hk' : unsorted (V (Proc.devRef .tc main_v21)) (V (Proc.devRef .tc main_v78_4)) (ix1 n) = K := hk
  rw [hk']
  after_reads_at
  exact congrArg (· * _) hs

include hc hB in
theorem tail1 : StableHlo.after hostOps0_11 V (Proc.devRef .tc main_v178) (ix3 0 n 1)
    = left (V (Proc.devRef .tc main_arg1)) (V (Proc.devRef .tc main_arg3)) n * tailKeep V n := by
  unfold tailKeep
  after_reads_at
  generalize hk : Host.scatter _ _ _ _ _ _ = K
  have hk' : unsorted (V (Proc.devRef .tc main_v21)) (V (Proc.devRef .tc main_v78_4)) (ix1 n) = K := hk
  rw [hk']
  after_reads_at
  simp only [hc]
  after_reads_at
  after_reads_at
  simp only [hB, Fin.sum_univ_two]
  exact congrArg (· * _) (minus_form _ _ _ _ _ _ _ sign0)

include hc hB in
theorem tail2 : StableHlo.after hostOps0_11 V (Proc.devRef .tc main_v178) (ix3 0 n 2)
    = top (V (Proc.devRef .tc main_arg1)) (V (Proc.devRef .tc main_arg3)) n * tailKeep V n := by
  unfold tailKeep
  after_reads_at
  generalize hk : Host.scatter _ _ _ _ _ _ = K
  have hk' : unsorted (V (Proc.devRef .tc main_v21)) (V (Proc.devRef .tc main_v78_4)) (ix1 n) = K := hk
  rw [hk']
  after_reads_at
  simp only [hc]
  after_reads_at
  after_reads_at
  simp only [hB, Fin.sum_univ_two]
  exact congrArg (· * _) (minus_form _ _ _ _ _ _ _ sign1)

include hc hB in
theorem tail3 : StableHlo.after hostOps0_11 V (Proc.devRef .tc main_v178) (ix3 0 n 3)
    = right (V (Proc.devRef .tc main_arg1)) (V (Proc.devRef .tc main_arg3)) n * tailKeep V n := by
  unfold tailKeep
  after_reads_at
  generalize hk : Host.scatter _ _ _ _ _ _ = K
  have hk' : unsorted (V (Proc.devRef .tc main_v21)) (V (Proc.devRef .tc main_v78_4)) (ix1 n) = K := hk
  rw [hk']
  after_reads_at
  simp only [hc]
  after_reads_at
  after_reads_at
  simp only [hB, Fin.sum_univ_two]
  exact congrArg (· * _) (plus_form _ _ _ _ _ _ _ sign2)

include hc hB in
theorem tail4 : StableHlo.after hostOps0_11 V (Proc.devRef .tc main_v178) (ix3 0 n 4)
    = bottom (V (Proc.devRef .tc main_arg1)) (V (Proc.devRef .tc main_arg3)) n * tailKeep V n := by
  unfold tailKeep
  after_reads_at
  generalize hk : Host.scatter _ _ _ _ _ _ = K
  have hk' : unsorted (V (Proc.devRef .tc main_v21)) (V (Proc.devRef .tc main_v78_4)) (ix1 n) = K := hk
  rw [hk']
  after_reads_at
  simp only [hc]
  after_reads_at
  after_reads_at
  simp only [hB, Fin.sum_univ_two]
  exact congrArg (· * _) (plus_form _ _ _ _ _ _ _ sign3)

include hc hB in
theorem tail7 : StableHlo.after hostOps0_11 V (Proc.devRef .tc main_v178) (ix3 0 n 7)
    = left (V (Proc.devRef .tc main_arg2)) (V (Proc.devRef .tc main_arg3)) n * tailKeep V n := by
  unfold tailKeep
  after_reads_at
  generalize hk : Host.scatter _ _ _ _ _ _ = K
  have hk' : unsorted (V (Proc.devRef .tc main_v21)) (V (Proc.devRef .tc main_v78_4)) (ix1 n) = K := hk
  rw [hk']
  after_reads_at
  simp only [hc]
  after_reads_at
  after_reads_at
  simp only [hB, Fin.sum_univ_two]
  exact congrArg (· * _) (minus_form _ _ _ _ _ _ _ sign0)

include hc hB in
theorem tail8 : StableHlo.after hostOps0_11 V (Proc.devRef .tc main_v178) (ix3 0 n 8)
    = top (V (Proc.devRef .tc main_arg2)) (V (Proc.devRef .tc main_arg3)) n * tailKeep V n := by
  unfold tailKeep
  after_reads_at
  generalize hk : Host.scatter _ _ _ _ _ _ = K
  have hk' : unsorted (V (Proc.devRef .tc main_v21)) (V (Proc.devRef .tc main_v78_4)) (ix1 n) = K := hk
  rw [hk']
  after_reads_at
  simp only [hc]
  after_reads_at
  after_reads_at
  simp only [hB, Fin.sum_univ_two]
  exact congrArg (· * _) (minus_form _ _ _ _ _ _ _ sign1)

include hc hB in
theorem tail9 : StableHlo.after hostOps0_11 V (Proc.devRef .tc main_v178) (ix3 0 n 9)
    = right (V (Proc.devRef .tc main_arg2)) (V (Proc.devRef .tc main_arg3)) n * tailKeep V n := by
  unfold tailKeep
  after_reads_at
  generalize hk : Host.scatter _ _ _ _ _ _ = K
  have hk' : unsorted (V (Proc.devRef .tc main_v21)) (V (Proc.devRef .tc main_v78_4)) (ix1 n) = K := hk
  rw [hk']
  after_reads_at
  simp only [hc]
  after_reads_at
  after_reads_at
  simp only [hB, Fin.sum_univ_two]
  exact congrArg (· * _) (plus_form _ _ _ _ _ _ _ sign2)

include hc hB in
theorem tail10 : StableHlo.after hostOps0_11 V (Proc.devRef .tc main_v178) (ix3 0 n 10)
    = bottom (V (Proc.devRef .tc main_arg2)) (V (Proc.devRef .tc main_arg3)) n * tailKeep V n := by
  unfold tailKeep
  after_reads_at
  generalize hk : Host.scatter _ _ _ _ _ _ = K
  have hk' : unsorted (V (Proc.devRef .tc main_v21)) (V (Proc.devRef .tc main_v78_4)) (ix1 n) = K := hk
  rw [hk']
  after_reads_at
  simp only [hc]
  after_reads_at
  after_reads_at
  simp only [hB, Fin.sum_univ_two]
  exact congrArg (· * _) (plus_form _ _ _ _ _ _ _ sign3)

include hB in
theorem tail5 : StableHlo.after hostOps0_11 V (Proc.devRef .tc main_v178) (ix3 0 n 5)
    = mapped (V (Proc.devRef .tc main_arg1)) (V (Proc.devRef .tc main_arg3)) 0 n * tailKeep V n := by
  unfold tailKeep
  after_reads_at
  generalize hk : Host.scatter _ _ _ _ _ _ = K
  have hk' : unsorted (V (Proc.devRef .tc main_v21)) (V (Proc.devRef .tc main_v78_4)) (ix1 n) = K := hk
  rw [hk']
  after_reads_at
  after_reads_at
  simp only [hB, Fin.sum_univ_two]
  exact congrArg (· * _) (centre_form _ _ _ _ _)

include hB in
theorem tail6 : StableHlo.after hostOps0_11 V (Proc.devRef .tc main_v178) (ix3 0 n 6)
    = mapped (V (Proc.devRef .tc main_arg1)) (V (Proc.devRef .tc main_arg3)) 1 n * tailKeep V n := by
  unfold tailKeep
  after_reads_at
  generalize hk : Host.scatter _ _ _ _ _ _ = K
  have hk' : unsorted (V (Proc.devRef .tc main_v21)) (V (Proc.devRef .tc main_v78_4)) (ix1 n) = K := hk
  rw [hk']
  after_reads_at
  after_reads_at
  simp only [hB, Fin.sum_univ_two]
  exact congrArg (· * _) (centre_form _ _ _ _ _)

end Cert.Proof.Val
-- ==== Proof.Val.ROut.lean ====
/-
  What the reference returns, channel by channel, as a function of its arguments.
-/
module

public import proofs.«01_k».proof.Proof.Val.RHost
public import proofs.«01_k».proof.Proof.Val.RTail
public import proofs.«01_k».proof.Proof.Val.Loop
public import proofs.«01_k».proof.Proof.Val.Greedy

@[expose] public section

noncomputable section

namespace Cert.Proof.Val

open Cert.ReferenceIdeal Cert.ReferenceIdeal.Gen Cert.ReferenceIdeal.Value Cert.Proof.RI
open Idealize.ShloMosaic Idealize.ShloMosaic.TcCoe Idealize.ShloMosaic.StableHlo

variable (m : (ℓ : Loc nD τ sig) → Buf (Elt Ideal) ℓ) (c : Dev nD)

/-- The buffers as launched, and after the first three stretches of host operations. -/
abbrev S0 : Valuation τ sig (Elt Ideal) := fun b => m (c, b)
abbrev S1' : Valuation τ sig (Elt Ideal) := after hostOps0 (S0 m c)
abbrev S2' : Valuation τ sig (Elt Ideal) := after hostOps0_1 (S1' m c)
abbrev S3' : Valuation τ sig (Elt Ideal) := after hostOps0_2 (S2' m c)

/-- The arguments as launched. -/
abbrev rarg0 : S1x5000x2.Idx → EReal := S0 m c (Proc.devRef .tc main_arg0)
abbrev rarg1 : S1x5000x6.Idx → EReal := S0 m c (Proc.devRef .tc main_arg1)
abbrev rarg2 : S1x5000x6.Idx → EReal := S0 m c (Proc.devRef .tc main_arg2)
abbrev rarg3 : S1x1x2x3.Idx → EReal := S0 m c (Proc.devRef .tc main_arg3)

theorem entry_split : entryContents preI m c
    = after hostOps0_10 (after hostOps0_9 (after hostOps0_8 (after hostOps0_7 (after hostOps0_6 (after hostOps0_5
        (after hostOps0_4 (after hostOps0_3 (S3' m c)))))))) := by
  simp only [entryContents, preI, afterL_cons, afterL_nil]

/-- A buffer that no operation from the third stretch to the loop writes. -/
theorem entry_of (r : Ref sig .tc)
    (h : ∀ W ∈ [hostOps0_2_W, hostOps0_3_W, hostOps0_4_W, hostOps0_5_W, hostOps0_6_W, hostOps0_7_W,
      hostOps0_8_W, hostOps0_9_W, hostOps0_10_W], r ∉ W) : entryContents preI m c (Proc.devRef .tc r) = S2' m c (Proc.devRef .tc r) := by
  rw [entry_split, after_of_writes_sub hostOps0_10 _ hostOps0_10_writes (h _ (by simp)),
    after_of_writes_sub hostOps0_9 _ hostOps0_9_writes (h _ (by simp)),
    after_of_writes_sub hostOps0_8 _ hostOps0_8_writes (h _ (by simp)),
    after_of_writes_sub hostOps0_7 _ hostOps0_7_writes (h _ (by simp)),
    after_of_writes_sub hostOps0_6 _ hostOps0_6_writes (h _ (by simp)),
    after_of_writes_sub hostOps0_5 _ hostOps0_5_writes (h _ (by simp)),
    after_of_writes_sub hostOps0_4 _ hostOps0_4_writes (h _ (by simp)),
    after_of_writes_sub hostOps0_3 _ hostOps0_3_writes (h _ (by simp))]
  exact after_of_writes_sub hostOps0_2 _ hostOps0_2_writes (h _ (by simp))

theorem loop_of (r : Ref sig .tc)
    (h : ∀ W ∈ [hostOps0_2_W, hostOps0_3_W, hostOps0_4_W, hostOps0_5_W, hostOps0_6_W, hostOps0_7_W,
      hostOps0_8_W, hostOps0_9_W, hostOps0_10_W], r ∉ W) (h' : ∀ W ∈ [condOps_W, while0Ops0_W, while0Ops0_1_W, while0Ops0_2_W], r ∉ W) :
    afterLoop m c (Proc.devRef .tc r) = S2' m c (Proc.devRef .tc r) :=
  (afterLoop_keep m c r h').trans (entry_of m c r h)

theorem second_of (r : Ref sig .tc) (h : r ∉ hostOps0_1_W) : S2' m c (Proc.devRef .tc r) = S1' m c (Proc.devRef .tc r) :=
  after_of_writes_sub hostOps0_1 _ hostOps0_1_writes h

theorem first_of (r : Ref sig .tc) (h : r ∉ hostOps0_W) : S1' m c (Proc.devRef .tc r) = S0 m c (Proc.devRef .tc r) :=
  after_of_writes_sub hostOps0 _ hostOps0_writes h

theorem rperm_at : S2' m c (Proc.devRef .tc main_v21) = permOf (keys (rarg0 m c)) :=
  (r_perm (S1' m c)).trans (congrArg permOf (r_keys (S0 m c)))

theorem rcorners_at : S2' m c (Proc.devRef .tc main_v17) = corners (rarg1 m c) :=
  (second_of m c main_v17 (by decide)).trans (r_corners (S0 m c))

theorem rsides_at (n : Fin 5000) (a : Fin 4) :
    orderedOf (S2' m c (Proc.devRef .tc main_v17)) (S2' m c (Proc.devRef .tc main_v21)) (ix2 n a) = sortedBox (rarg0 m c) (rarg1 m c) n a := by
  rw [rperm_at, rcorners_at]
  rfl

/-- The overlap ratios the loop reads. -/
theorem ratio_at (i j : Fin 5000) : entryContents preI m c (Proc.devRef .tc main_v78_0) (ix2 i j)
    = Ideal.div (overlap (sortedBox (rarg0 m c) (rarg1 m c) i) (sortedBox (rarg0 m c) (rarg1 m c) j))
        (union (sortedBox (rarg0 m c) (rarg1 m c) i) (sortedBox (rarg0 m c) (rarg1 m c) j)) := by
  rw [entry_split]
  refine r_ratio (S3' m c) (sortedBox (rarg0 m c) (rarg1 m c)) (fun n => ?_) (fun n => ?_) (fun n => ?_) (fun n => ?_) (fun n => ?_)
    (r_zero (S2' m c)) i j
  · exact (r_left (S2' m c) n).trans (rsides_at m c n 0)
  · exact (r_top (S2' m c) n).trans (rsides_at m c n 1)
  · exact (r_right (S2' m c) n).trans (rsides_at m c n 2)
  · exact (r_bottom (S2' m c) n).trans (rsides_at m c n 3)
  · exact (r_width (S2' m c) n).trans (congrArg₂ (fun x y : EReal => x - y) (rsides_at m c n 2) (rsides_at m c n 0))

theorem bit_eq (a b : BitVec 1) (h : a = 1#1 ↔ b = 1#1) : a = b := by revert a b; decide

/-- The loop leaves the kept boxes' flags. -/
theorem flags_after (h1 : ∀ (n : Fin 5000) (a : Fin 4), rarg1 m c (ix3 0 n ⟨2 + a.val, by omega⟩) < ⊤) :
    afterLoop m c (Proc.devRef .tc main_v78_4) = flags (rarg0 m c) (rarg1 m c) := by
  funext i
  obtain ⟨n, rfl⟩ : ∃ n, i = ix1 n := ⟨i 0, ext1 rfl⟩
  have ha : afterLoop m c (Proc.devRef .tc main_v78_4) = STEP^[5000] (entryContents preI m c) (Proc.devRef .tc main_v78_4) :=
    (cond_keeps (atK m 5000 c) main_v78_4 (by decide)).trans (atK_agree m c 5000 main_v78_4 (by decide))
  rw [ha]
  refine bit_eq _ _ (Iff.trans (loop_end _ ?_ ?_ ?_ n) (Iff.trans ?_ (flags_at _ _ n).symm))
  · rw [entry_split]; exact r_start _
  · rw [entry_split]; exact r_iota _
  · rw [entry_split]; exact r_ones _
  refine kept_congr 5000 (fun i hi j hj => ?_) n.val n.isLt
  have h := hit_div (sortedBox (rarg0 m c) (rarg1 m c) ⟨i, hi⟩) (sortedBox (rarg0 m c) (rarg1 m c) ⟨j, hj⟩)
    (sortedBox_bounded _ _ h1 _) (sortedBox_bounded _ _ h1 _)
  rw [← ratio_at] at h
  exact ⟨fun ⟨_, _, hs⟩ => ⟨hi, hj, h.mp hs⟩, fun ⟨_, _, hs⟩ => ⟨hi, hj, h.mpr hs⟩⟩

theorem rkeep_at (h1 : ∀ (n : Fin 5000) (a : Fin 4), rarg1 m c (ix3 0 n ⟨2 + a.val, by omega⟩) < ⊤) (n : Fin 5000) :
    tailKeep (afterLoop m c) n = keepOf (rarg0 m c) (rarg1 m c) n := by
  unfold tailKeep
  rw [flags_after m c h1, loop_of m c main_v21 (by decide) (by decide), rperm_at]
  rfl

theorem rscore_at (n : Fin 5000) : afterLoop m c (Proc.devRef .tc main_v7) (ix2 0 n) = Ideal.logistic (rarg0 m c (ix3 0 n 1)) :=
  (congrFun ((loop_of m c main_v7 (by decide) (by decide)).trans (second_of m c main_v7 (by decide))) (ix2 0 n)).trans (r_score (S0 m c) n)

theorem rsigns_at (i : S4.Idx) : afterLoop m c (Proc.devRef .tc main_cst) i = Ideal.ofBits .f32 (lit0 (S4.rowMajor i)) :=
  (congrFun ((loop_of m c main_cst (by decide) (by decide)).trans (second_of m c main_cst (by decide))) i).trans (r_signs (S0 m c) i)

theorem rsize_at (i : S2.Idx) : afterLoop m c (Proc.devRef .tc main_cst_0) i = Ideal.ofBits .f32 0x43000000#32 :=
  (congrFun ((loop_of m c main_cst_0 (by decide) (by decide)).trans (second_of m c main_cst_0 (by decide))) i).trans (r_size (S0 m c) i)

theorem rarg1_at : afterLoop m c (Proc.devRef .tc main_arg1) = rarg1 m c :=
  (loop_of m c main_arg1 (by decide) (by decide)).trans ((second_of m c main_arg1 (by decide)).trans (first_of m c main_arg1 (by decide)))

theorem rarg2_at : afterLoop m c (Proc.devRef .tc main_arg2) = rarg2 m c :=
  (loop_of m c main_arg2 (by decide) (by decide)).trans ((second_of m c main_arg2 (by decide)).trans (first_of m c main_arg2 (by decide)))

theorem rarg3_at : afterLoop m c (Proc.devRef .tc main_arg3) = rarg3 m c :=
  (loop_of m c main_arg3 (by decide) (by decide)).trans ((second_of m c main_arg3 (by decide)).trans (first_of m c main_arg3 (by decide)))

variable (h1 : ∀ (n : Fin 5000) (a : Fin 4), rarg1 m c (ix3 0 n ⟨2 + a.val, by omega⟩) < ⊤) (n : Fin 5000)

include h1 in
theorem rout0 : final m c (Proc.devRef .tc main_v178) (ix3 0 n 0) = Ideal.logistic (rarg0 m c (ix3 0 n 1)) * keepOf (rarg0 m c) (rarg1 m c) n := by
  refine (tail0 (afterLoop m c) n _ (rscore_at m c n)).trans ?_
  rw [rkeep_at m c h1 n]

include h1 in
theorem rout1 : final m c (Proc.devRef .tc main_v178) (ix3 0 n 1) = left (rarg1 m c) (rarg3 m c) n * keepOf (rarg0 m c) (rarg1 m c) n := by
  refine (tail1 (afterLoop m c) (rsigns_at m c) (rsize_at m c) n).trans ?_
  rw [rkeep_at m c h1 n, rarg1_at, rarg3_at]

include h1 in
theorem rout2 : final m c (Proc.devRef .tc main_v178) (ix3 0 n 2) = top (rarg1 m c) (rarg3 m c) n * keepOf (rarg0 m c) (rarg1 m c) n := by
  refine (tail2 (afterLoop m c) (rsigns_at m c) (rsize_at m c) n).trans ?_
  rw [rkeep_at m c h1 n, rarg1_at, rarg3_at]

include h1 in
theorem rout3 : final m c (Proc.devRef .tc main_v178) (ix3 0 n 3) = right (rarg1 m c) (rarg3 m c) n * keepOf (rarg0 m c) (rarg1 m c) n := by
  refine (tail3 (afterLoop m c) (rsigns_at m c) (rsize_at m c) n).trans ?_
  rw [rkeep_at m c h1 n, rarg1_at, rarg3_at]

include h1 in
theorem rout4 : final m c (Proc.devRef .tc main_v178) (ix3 0 n 4) = bottom (rarg1 m c) (rarg3 m c) n * keepOf (rarg0 m c) (rarg1 m c) n := by
  refine (tail4 (afterLoop m c) (rsigns_at m c) (rsize_at m c) n).trans ?_
  rw [rkeep_at m c h1 n, rarg1_at, rarg3_at]

include h1 in
theorem rout7 : final m c (Proc.devRef .tc main_v178) (ix3 0 n 7) = left (rarg2 m c) (rarg3 m c) n * keepOf (rarg0 m c) (rarg1 m c) n := by
  refine (tail7 (afterLoop m c) (rsigns_at m c) (rsize_at m c) n).trans ?_
  rw [rkeep_at m c h1 n, rarg2_at, rarg3_at]

include h1 in
theorem rout8 : final m c (Proc.devRef .tc main_v178) (ix3 0 n 8) = top (rarg2 m c) (rarg3 m c) n * keepOf (rarg0 m c) (rarg1 m c) n := by
  refine (tail8 (afterLoop m c) (rsigns_at m c) (rsize_at m c) n).trans ?_
  rw [rkeep_at m c h1 n, rarg2_at, rarg3_at]

include h1 in
theorem rout9 : final m c (Proc.devRef .tc main_v178) (ix3 0 n 9) = right (rarg2 m c) (rarg3 m c) n * keepOf (rarg0 m c) (rarg1 m c) n := by
  refine (tail9 (afterLoop m c) (rsigns_at m c) (rsize_at m c) n).trans ?_
  rw [rkeep_at m c h1 n, rarg2_at, rarg3_at]

include h1 in
theorem rout10 : final m c (Proc.devRef .tc main_v178) (ix3 0 n 10) = bottom (rarg2 m c) (rarg3 m c) n * keepOf (rarg0 m c) (rarg1 m c) n := by
  refine (tail10 (afterLoop m c) (rsigns_at m c) (rsize_at m c) n).trans ?_
  rw [rkeep_at m c h1 n, rarg2_at, rarg3_at]

include h1 in
theorem rout5 : final m c (Proc.devRef .tc main_v178) (ix3 0 n 5) = mapped (rarg1 m c) (rarg3 m c) 0 n * keepOf (rarg0 m c) (rarg1 m c) n := by
  refine (tail5 (afterLoop m c) (rsize_at m c) n).trans ?_
  rw [rkeep_at m c h1 n, rarg1_at, rarg3_at]

include h1 in
theorem rout6 : final m c (Proc.devRef .tc main_v178) (ix3 0 n 6) = mapped (rarg1 m c) (rarg3 m c) 1 n * keepOf (rarg0 m c) (rarg1 m c) n := by
  refine (tail6 (afterLoop m c) (rsize_at m c) n).trans ?_
  rw [rkeep_at m c h1 n, rarg1_at, rarg3_at]

end Cert.Proof.Val
-- ==== Proof.Val.Agree.lean ====
/-
  From the same arguments the kernel and the reference return the same array.
-/
module

public import proofs.«01_k».proof.Proof.Val.KOut
public import proofs.«01_k».proof.Proof.Val.ROut

@[expose] public section

noncomputable section

namespace Cert.Proof.Val

open Idealize.ShloMosaic Idealize.ShloMosaic.TcCoe

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

theorem same (e0 : rarg0 m' c = arg0 m c) (e1 : rarg1 m' c = arg1 m c) (e2 : rarg2 m' c = arg2 m c) (e3 : rarg3 m' c = arg3 m c)
    (h1 : ∀ (n : Fin 5000) (a : Fin 4), arg1 m c (ix3 0 n ⟨2 + a.val, by omega⟩) < ⊤) (h3 : ∀ i, 0 ≤ arg3 m c i) (n : Fin 5000) (k : Fin 11) :
    RI.final m' c (Proc.devRef .tc ReferenceIdeal.main_v178) (ix3 0 n k) = KI.final m c (Proc.devRef .tc KernelIdeal.main_v78) (ix3 0 n k) := by
  have h1' : ∀ (n : Fin 5000) (a : Fin 4), rarg1 m' c (ix3 0 n ⟨2 + a.val, by omega⟩) < ⊤ := by rw [e1]; exact h1
  match k with
  | 0 => rw [rout0 m' c h1' n, e0, e1]; exact (out0 m c n).symm
  | 1 => rw [rout1 m' c h1' n, e0, e1, e3]; exact (out1 m c h3 n).symm
  | 2 => rw [rout2 m' c h1' n, e0, e1, e3]; exact (out2 m c h3 n).symm
  | 3 => rw [rout3 m' c h1' n, e0, e1, e3]; exact (out3 m c h3 n).symm
  | 4 => rw [rout4 m' c h1' n, e0, e1, e3]; exact (out4 m c h3 n).symm
  | 5 => rw [rout5 m' c h1' n, e0, e1, e3]; exact (out5 m c h3 n).symm
  | 6 => rw [rout6 m' c h1' n, e0, e1, e3]; exact (out6 m c h3 n).symm
  | 7 => rw [rout7 m' c h1' n, e0, e1, e2, e3]; exact (out7 m c h3 n).symm
  | 8 => rw [rout8 m' c h1' n, e0, e1, e2, e3]; exact (out8 m c h3 n).symm
  | 9 => rw [rout9 m' c h1' n, e0, e1, e2, e3]; exact (out9 m c h3 n).symm
  | 10 => rw [rout10 m' c h1' n, e0, e1, e2, e3]; exact (out10 m c h3 n).symm

end Cert.Proof.Val
-- ==== Proof.lean ====
/-
  The certificate of the suppression kernel: the printed program, its idealization and the reference each run to the end
  with their arguments as launched and every semaphore counter at zero; and where no side of a box is plus infinity and the map has
  no negative entry, the idealization and the reference return the same arrays.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.K.Run
public import proofs.«01_k».proof.Proof.KI.Run
public import proofs.«01_k».proof.Proof.RI.Run
public import proofs.«01_k».proof.Proof.Val.Pre
public import proofs.«01_k».proof.Proof.Val.Agree
public import Idealize.ShloMosaic.Adequacy
public import Idealize.ShloMosaic.Init

@[expose] public section

noncomputable section

namespace Cert.Proof

open Idealize.ShloMosaic Idealize.SL.Sem

/-- The printed program runs and leaves its arguments and every counter as they were. -/
theorem frame_kernel : Cert.quiescent_Kernel := fun m ρ _ =>
  (θ_run _ _ _).mono (fun _ h => ⟨fun c => ⟨(h.1 c).1, (h.1 c).2.1, (h.1 c).2.2.1, (h.1 c).2.2.2.1, (h.1 c).2.2.2.2.1⟩, h.2⟩)
    (K.run_main m ρ)

/-- The idealization runs and leaves its arguments and every counter as they were. -/
theorem frame_ideal : Cert.quiescent_KernelIdeal := fun m ρ _ =>
  (θ_run _ _ _).mono (fun _ h => ⟨fun c => ⟨(h.1 c).1, (h.1 c).2.1, (h.1 c).2.2.1, (h.1 c).2.2.2.1, (h.1 c).2.2.2.2.1⟩, h.2⟩)
    (KI.run_main m ρ)

/-- The reference runs and leaves its arguments and every counter as they were. -/
theorem frame_reference : Cert.quiescent_ReferenceIdeal := fun m ρ _ =>
  (θ_run _ _ _).mono (fun _ h => ⟨fun c => ⟨(h.1 c).1, (h.1 c).2.1, (h.1 c).2.2.1, (h.1 c).2.2.2.1, (h.1 c).2.2.2.2.1⟩, h.2⟩)
    (RI.run_main m ρ)

theorem frame_ideal_pre : Cert.quiescent_KernelIdeal_pre_bounded_sides_and_nonnegative_trans := fun m ρ _ => frame_ideal m ρ trivial

theorem frame_reference_pre : Cert.quiescent_ReferenceIdeal_pre_bounded_sides_and_nonnegative_trans := fun m ρ _ => frame_reference m ρ trivial

/-- The idealization and the reference return the same arrays. -/
theorem agree : Cert.algebraic_KernelIdeal_ReferenceIdeal_pre_bounded_sides_and_nonnegative_trans := by
  intro m ρ m' ρ' hpre hargs
  refine ⟨fun c => KI.final m c (Proc.devRef .tc KernelIdeal.main_v78), fun c => m (c, Proc.devRef .tc KernelIdeal.main_arg4),
    (θ_run _ _ _).mono (fun _ h c => ?_) (KI.run_main m ρ), (θ_run _ _ _).mono (fun _ h c => ?_) (RI.run_main m' ρ')⟩
  · obtain ⟨h0, h1, h2, h3, h4, hv⟩ := h.1 c
    exact ⟨hv, h4, h0, h1, h2, h3, h4⟩
  · obtain ⟨h0, h1, h2, h3, h4, hv⟩ := h.1 c
    obtain ⟨e0, e1, e2, e3, e4⟩ := hargs c
    refine ⟨hv.trans (funext fun i => ?_), h4.trans e4, h0, h1, h2, h3, h4⟩
    obtain ⟨z, n, k, rfl⟩ : ∃ (z : Fin 1) (n : Fin 5000) (k : Fin 11), i = ix3 z n k :=
      ⟨i 0, i 1, i 2, funext fun a => match a with | 0 => rfl | 1 => rfl | 2 => rfl⟩
    obtain rfl : z = 0 := Subsingleton.elim _ _
    refine Val.same m m' c e0 e1 e2 e3 (Val.Pre.sides_bounded _ _ _ _ _ (hpre c)) (fun i => ?_) n k
    obtain ⟨y, z, n, k, rfl⟩ : ∃ (y z : Fin 1) (n : Fin 2) (k : Fin 3), i = ix4 y z n k :=
      ⟨i 0, i 1, i 2, i 3, funext fun a => match a with | 0 => rfl | 1 => rfl | 2 => rfl | 3 => rfl⟩
    obtain rfl : y = 0 := Subsingleton.elim _ _
    obtain rfl : z = 0 := Subsingleton.elim _ _
    exact Val.Pre.map_nonneg _ _ _ _ _ (hpre c) n k

theorem claim : Cert.Claim := ⟨Cert.Kernel.Gen.facts, Cert.KernelIdeal.Gen.facts, Cert.ReferenceIdeal.Gen.facts, Val.Pre.facts,
  frame_kernel, frame_ideal, frame_ideal_pre, frame_reference, frame_reference_pre, trivial, agree⟩

end Cert.Proof

end
